-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_small [hPre_small : Cert.Pre_small.Facts] (m : (ℓ : Loc Cert.KernelIdeal.nD Cert.KernelIdeal.τ Cert.KernelIdeal.sig) → Buf (Elt Ideal) ℓ) : Prop :=
  ∀ c : Dev Cert.KernelIdeal.nD,
    (Cert.Pre_small.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_small [hPre_small : Cert.Pre_small.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_small.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_small [hKernelIdeal : Cert.KernelIdeal.Facts] [hPre_small : Cert.Pre_small.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_small m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_small [hReferenceIdeal : Cert.ReferenceIdeal.Facts] [hPre_small : Cert.Pre_small.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_small m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_small [hKernelIdeal : Cert.KernelIdeal.Facts] [hReferenceIdeal : Cert.ReferenceIdeal.Facts] [hPre_small : Cert.Pre_small.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_small m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_small : Cert.Pre_small.Facts),
    quiescent_Kernel (hKernel := hKernel)
    ∧ quiescent_KernelIdeal (hKernelIdeal := hKernelIdeal)
    ∧ quiescent_KernelIdeal_pre_small (hKernelIdeal := hKernelIdeal) (hPre_small := hPre_small)
    ∧ quiescent_ReferenceIdeal (hReferenceIdeal := hReferenceIdeal)
    ∧ quiescent_ReferenceIdeal_pre_small (hReferenceIdeal := hReferenceIdeal) (hPre_small := hPre_small)
    ∧ preserves_Kernel_KernelIdeal
    ∧ algebraic_KernelIdeal_ReferenceIdeal_pre_small (hKernelIdeal := hKernelIdeal) (hReferenceIdeal := hReferenceIdeal) (hPre_small := hPre_small)
-- ==== Pre_small.lean ====
abbrev S8x20000x4 : Shape := ⟨3, ![8, 20000, 4]⟩
abbrev S8x64x4 : Shape := ⟨3, ![8, 64, 4]⟩
abbrev S_ : Shape := ⟨0, ![]⟩

class Facts : Prop where
  bcast_S_S8x20000x4 : S_.BroadcastsInDim S8x20000x4 (![] : Fin 0 → Fin S8x20000x4.rank)
  reducesTo_S8x20000x4_S_d0_1_2 : S8x20000x4.ReducesTo [0, 1, 2] S_
  h_S_ : 0 < S_.numel
  bcast_S_S8x64x4 : S_.BroadcastsInDim S8x64x4 (![] : Fin 0 → Fin S8x64x4.rank)
  reducesTo_S8x64x4_S_d0_1_2 : S8x64x4.ReducesTo [0, 1, 2] S_

variable [Facts]

def fn {F : FTy → Type} [FloatOps F] (main_arg0 : FVec F S8x20000x4 .f32) (main_arg1 : FVec F S8x20000x4 .f32) (main_arg2 : FVec F S8x64x4 .f32) : IVec S_ 1 :=
  let main_v0 : FVec F S8x20000x4 .f32 := Host.absf main_arg0
  let main_cst : FVec F S_ .f32 := constant S_ .f32 0x5BB1A2BC#32
  let main_v1 : FVec F S8x20000x4 .f32 := broadcastInDim S8x20000x4 ![] bcast_S_S8x20000x4 main_cst
  let main_v2 : IVec S8x20000x4 1 := cmpf .ole main_v0 main_v1
  let main_c : IVec S_ 1 := constantI S_ 1 1#1
  let main_v3 : IVec S_ 1 := (fun x v => Host.reduce IntOp.andi x v reducesTo_S8x20000x4_S_d0_1_2 h_S_) main_v2 main_c
  let main_v4 : FVec F S8x20000x4 .f32 := Host.absf main_arg1
  let main_cst_0 : FVec F S_ .f32 := constant S_ .f32 0x5BB1A2BC#32
  let main_v5 : FVec F S8x20000x4 .f32 := broadcastInDim S8x20000x4 ![] bcast_S_S8x20000x4 main_cst_0
  let main_v6 : IVec S8x20000x4 1 := cmpf .ole main_v4 main_v5
  let main_c_1 : IVec S_ 1 := constantI S_ 1 1#1
  let main_v7 : IVec S_ 1 := (fun x v => Host.reduce IntOp.andi x v reducesTo_S8x20000x4_S_d0_1_2 h_S_) main_v6 main_c_1
  let main_v8 : IVec S_ 1 := andi main_v3 main_v7
  let main_v9 : FVec F S8x64x4 .f32 := Host.absf main_arg2
  let main_cst_2 : FVec F S_ .f32 := constant S_ .f32 0x5BB1A2BC#32
  let main_v10 : FVec F S8x64x4 .f32 := broadcastInDim S8x64x4 ![] bcast_S_S8x64x4 main_cst_2
  let main_v11 : IVec S8x64x4 1 := cmpf .ole main_v9 main_v10
  let main_c_3 : IVec S_ 1 := constantI S_ 1 1#1
  let main_v12 : IVec S_ 1 := (fun x v => Host.reduce IntOp.andi x v reducesTo_S8x64x4_S_d0_1_2 h_S_) main_v11 main_c_3
  let main_v13 : IVec S_ 1 := andi main_v8 main_v12
  main_v13
-- ==== Kernel.lean ====
abbrev S8x20000x4 : Shape := ⟨3, ![8, 20000, 4]⟩
abbrev S8x64x4 : Shape := ⟨3, ![8, 64, 4]⟩
abbrev S_ : Shape := ⟨0, ![]⟩
abbrev S8x20096x4 : Shape := ⟨3, ![8, 20096, 4]⟩
abbrev S8x157x128x4 : Shape := ⟨4, ![8, 157, 128, 4]⟩
abbrev S8x157x4x128 : Shape := ⟨4, ![8, 157, 4, 128]⟩
abbrev S8x64x8 : Shape := ⟨3, ![8, 64, 8]⟩
abbrev S1x157x4x128 : Shape := ⟨4, ![1, 157, 4, 128]⟩
abbrev S1x64x4 : Shape := ⟨3, ![1, 64, 4]⟩
abbrev S1x64x8 : Shape := ⟨3, ![1, 64, 8]⟩
abbrev S64x4 : Shape := ⟨2, ![64, 4]⟩
abbrev S32x128 : Shape := ⟨2, ![32, 128]⟩
abbrev S32x4 : Shape := ⟨2, ![32, 4]⟩
abbrev S32x1 : Shape := ⟨2, ![32, 1]⟩
abbrev S1x1x4x128 : Shape := ⟨4, ![1, 1, 4, 128]⟩
abbrev S4x128 : Shape := ⟨2, ![4, 128]⟩
abbrev S1x128 : Shape := ⟨2, ![1, 128]⟩
abbrev S32x512 : Shape := ⟨2, ![32, 512]⟩
abbrev S32 : Shape := ⟨1, ![32]⟩
abbrev S1x32x1 : Shape := ⟨3, ![1, 32, 1]⟩
abbrev S8x512 : Shape := ⟨2, ![8, 512]⟩
abbrev S4 : Shape := ⟨1, ![4]⟩
abbrev S8 : Shape := ⟨1, ![8]⟩
abbrev S1x8 : Shape := ⟨2, ![1, 8]⟩
abbrev S1x1x1x8 : Shape := ⟨4, ![1, 1, 1, 8]⟩
abbrev S8x1x64x8 : Shape := ⟨4, ![8, 1, 64, 8]⟩

abbrev nBuf : Space → Nat
  | .hbm => 22
  | .vmem => 8
  | .smem => 0
  | _ => 0

abbrev bufTy : (tb : Table) → Fin (tcTables nBuf tb) → BufTy
  | .hbm, ⟨0, _⟩ => ⟨S8x20000x4, .f32⟩
  | .hbm, ⟨1, _⟩ => ⟨S8x20000x4, .f32⟩
  | .hbm, ⟨2, _⟩ => ⟨S8x64x4, .f32⟩
  | .hbm, ⟨3, _⟩ => ⟨S_, .f32⟩
  | .hbm, ⟨4, _⟩ => ⟨S_, .f32⟩
  | .hbm, ⟨5, _⟩ => ⟨S8x20096x4, .f32⟩
  | .hbm, ⟨6, _⟩ => ⟨S8x157x128x4, .f32⟩
  | .hbm, ⟨7, _⟩ => ⟨S8x157x4x128, .f32⟩
  | .hbm, ⟨8, _⟩ => ⟨S_, .f32⟩
  | .hbm, ⟨9, _⟩ => ⟨S_, .f32⟩
  | .hbm, ⟨10, _⟩ => ⟨S8x20096x4, .f32⟩
  | .hbm, ⟨11, _⟩ => ⟨S8x157x128x4, .f32⟩
  | .hbm, ⟨12, _⟩ => ⟨S8x157x4x128, .f32⟩
  | .hbm, ⟨13, _⟩ => ⟨S8x64x8, .i32⟩
  | .hbm, ⟨14, _⟩ => ⟨S8x512, .i32⟩
  | .hbm, ⟨15, _⟩ => ⟨S4, .i32⟩
  | .hbm, ⟨16, _⟩ => ⟨S4, .i32⟩
  | .hbm, ⟨17, _⟩ => ⟨S8, .i32⟩
  | .hbm, ⟨18, _⟩ => ⟨S1x8, .i32⟩
  | .hbm, ⟨19, _⟩ => ⟨S1x1x1x8, .i32⟩
  | .hbm, ⟨20, _⟩ => ⟨S8x1x64x8, .i32⟩
  | .hbm, ⟨21, _⟩ => ⟨S8x512, .i32⟩
  | .local _ .vmem, ⟨0, _⟩ => ⟨S1x157x4x128, .f32⟩
  | .local _ .vmem, ⟨1, _⟩ => ⟨S1x157x4x128, .f32⟩
  | .local _ .vmem, ⟨2, _⟩ => ⟨S1x157x4x128, .f32⟩
  | .local _ .vmem, ⟨3, _⟩ => ⟨S1x157x4x128, .f32⟩
  | .local _ .vmem, ⟨4, _⟩ => ⟨S1x64x4, .f32⟩
  | .local _ .vmem, ⟨5, _⟩ => ⟨S1x64x4, .f32⟩
  | .local _ .vmem, ⟨6, _⟩ => ⟨S1x64x8, .i32⟩
  | .local _ .vmem, ⟨7, _⟩ => ⟨S1x64x8, .i32⟩
  | _, _ => ⟨S8x20000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c4_i32 : BitVec 32 := 4#32
  let v23 : BitVec 32 := Scalar.addi c0_i32 c4_i32
  let c1_i32 : BitVec 32 := 1#32
  ⟨c0_i32, v23, c1_i32⟩
def k0_off1 (k0_t1 : Fin k0_t1_loop.trips) (c0_i32_1277 : BitVec 32) : Fin 4 → Nat :=
  let c0_1278 : Index := 0#32
  let c0_i32 : BitVec 32 := 0#32
  let c1_i32 : BitVec 32 := 1#32
  let arg5 : BitVec 32 := Scf.iv c0_i32 c1_i32 k0_t1
  let c32_i32 : BitVec 32 := 32#32
  let v6764 : BitVec 32 := Scalar.muli arg5 c32_i32
  let v6765 : BitVec 32 := Scalar.addi v6764 c0_i32_1277
  let v6766 : Index := Scalar.indexCast v6765
  let c0_1279 : Index := 0#32
  let c0_1280 : Index := 0#32
  ![0, v6766.toNat, 0, 0]
@[reducible] def k0_t2_loop : Scf.Loop 32 :=
  let c0_i32_299 : BitVec 32 := 0#32
  let c4_i32_300 : BitVec 32 := 4#32
  let v1713 : BitVec 32 := Scalar.addi c0_i32_299 c4_i32_300
  let c1_i32_301 : BitVec 32 := 1#32
  ⟨c0_i32_299, v1713, c1_i32_301⟩
def k0_off2 (k0_t2 : Fin k0_t2_loop.trips) (c0_i32_1277 : BitVec 32) : Fin 4 → Nat :=
  let c0_1278 : Index := 0#32
  let c0_i32_299 : BitVec 32 := 0#32
  let c1_i32_301 : BitVec 32 := 1#32
  let arg5 : BitVec 32 := Scf.iv c0_i32_299 c1_i32_301 k0_t2
  let c32_i32 : BitVec 32 := 32#32
  let v6764 : BitVec 32 := Scalar.muli arg5 c32_i32
  let v6765 : BitVec 32 := Scalar.addi v6764 c0_i32_1277
  let v6766 : Index := Scalar.indexCast v6765
  let c0_1279 : Index := 0#32
  let c0_1280 : Index := 0#32
  ![0, v6766.toNat, 0, 0]
@[reducible] def k0_t3_loop : Scf.Loop 32 :=
  let c0_i32_627 : BitVec 32 := 0#32
  let c4_i32_628 : BitVec 32 := 4#32
  let v3403 : BitVec 32 := Scalar.addi c0_i32_627 c4_i32_628
  let c1_i32_629 : BitVec 32 := 1#32
  ⟨c0_i32_627, v3403, c1_i32_629⟩
def k0_off3 (k0_t3 : Fin k0_t3_loop.trips) (c0_i32_1277 : BitVec 32) : Fin 4 → Nat :=
  let c0_1278 : Index := 0#32
  let c0_i32_627 : BitVec 32 := 0#32
  let c1_i32_629 : BitVec 32 := 1#32
  let arg5 : BitVec 32 := Scf.iv c0_i32_627 c1_i32_629 k0_t3
  let c32_i32 : BitVec 32 := 32#32
  let v6764 : BitVec 32 := Scalar.muli arg5 c32_i32
  let v6765 : BitVec 32 := Scalar.addi v6764 c0_i32_1277
  let v6766 : Index := Scalar.indexCast v6765
  let c0_1279 : Index := 0#32
  let c0_1280 : Index := 0#32
  ![0, v6766.toNat, 0, 0]
@[reducible] def k0_t4_loop : Scf.Loop 32 :=
  let c0_i32_952 : BitVec 32 := 0#32
  let c4_i32_953 : BitVec 32 := 4#32
  let v5093 : BitVec 32 := Scalar.addi c0_i32_952 c4_i32_953
  let c1_i32_954 : BitVec 32 := 1#32
  ⟨c0_i32_952, v5093, c1_i32_954⟩
def k0_off4 (k0_t4 : Fin k0_t4_loop.trips) (c0_i32_1277 : BitVec 32) : Fin 4 → Nat :=
  let c0_1278 : Index := 0#32
  let c0_i32_952 : BitVec 32 := 0#32
  let c1_i32_954 : BitVec 32 := 1#32
  let arg5 : BitVec 32 := Scf.iv c0_i32_952 c1_i32_954 k0_t4
  let c32_i32 : BitVec 32 := 32#32
  let v6764 : BitVec 32 := Scalar.muli arg5 c32_i32
  let v6765 : BitVec 32 := Scalar.addi v6764 c0_i32_1277
  let v6766 : Index := Scalar.indexCast v6765
  let c0_1279 : Index := 0#32
  let c0_1280 : Index := 0#32
  ![0, v6766.toNat, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x157x4x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x157x4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x8 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S8x20000x4 : Shape := ⟨3, ![8, 20000, 4]⟩
abbrev S8x64x4 : Shape := ⟨3, ![8, 64, 4]⟩
abbrev S8x20000x1 : Shape := ⟨3, ![8, 20000, 1]⟩
abbrev S_ : Shape := ⟨0, ![]⟩
abbrev S8x64x1 : Shape := ⟨3, ![8, 64, 1]⟩
abbrev S8x20000x1x4 : Shape := ⟨4, ![8, 20000, 1, 4]⟩
abbrev S8x1x64x4 : Shape := ⟨4, ![8, 1, 64, 4]⟩
abbrev S8x20000x64x4 : Shape := ⟨4, ![8, 20000, 64, 4]⟩
abbrev S8x20000x64 : Shape := ⟨3, ![8, 20000, 64]⟩
abbrev S8x64x20000 : Shape := ⟨3, ![8, 64, 20000]⟩
abbrev S8x64x8 : Shape := ⟨3, ![8, 64, 8]⟩
abbrev S8x512 : Shape := ⟨2, ![8, 512]⟩
abbrev S4 : Shape := ⟨1, ![4]⟩
abbrev S8 : Shape := ⟨1, ![8]⟩
abbrev S1x8 : Shape := ⟨2, ![1, 8]⟩
abbrev S1x1x1x8 : Shape := ⟨4, ![1, 1, 1, 8]⟩
abbrev S8x1x64x8 : Shape := ⟨4, ![8, 1, 64, 8]⟩

abbrev nBuf : Space → Nat
  | .hbm => 81
  | .vmem => 0
  | .smem => 0
  | _ => 0

abbrev bufTy : (tb : Table) → Fin (tcTables nBuf tb) → BufTy
  | .hbm, ⟨0, _⟩ => ⟨S8x20000x4, .f32⟩
  | .hbm, ⟨1, _⟩ => ⟨S8x20000x4, .f32⟩
  | .hbm, ⟨2, _⟩ => ⟨S8x64x4, .f32⟩
  | .hbm, ⟨3, _⟩ => ⟨S8x20000x1, .f32⟩
  | .hbm, ⟨4, _⟩ => ⟨S8x20000x1, .f32⟩
  | .hbm, ⟨5, _⟩ => ⟨S8x20000x1, .f32⟩
  | .hbm, ⟨6, _⟩ => ⟨S8x20000x1, .f32⟩
  | .hbm, ⟨7, _⟩ => ⟨S8x20000x1, .f32⟩
  | .hbm, ⟨8, _⟩ => ⟨S_, .f32⟩
  | .hbm, ⟨9, _⟩ => ⟨S8x20000x1, .f32⟩
  | .hbm, ⟨10, _⟩ => ⟨S8x20000x1, .f32⟩
  | .hbm, ⟨11, _⟩ => ⟨S8x20000x1, .f32⟩
  | .hbm, ⟨12, _⟩ => ⟨S_, .f32⟩
  | .hbm, ⟨13, _⟩ => ⟨S8x20000x1, .f32⟩
  | .hbm, ⟨14, _⟩ => ⟨S8x20000x1, .f32⟩
  | .hbm, ⟨15, _⟩ => ⟨S8x20000x1, .f32⟩
  | .hbm, ⟨16, _⟩ => ⟨S8x20000x1, .f32⟩
  | .hbm, ⟨17, _⟩ => ⟨S8x20000x4, .f32⟩
  | .hbm, ⟨18, _⟩ => ⟨S8x20000x1, .f32⟩
  | .hbm, ⟨19, _⟩ => ⟨S8x20000x1, .f32⟩
  | .hbm, ⟨20, _⟩ => ⟨S8x20000x1, .f32⟩
  | .hbm, ⟨21, _⟩ => ⟨S8x20000x1, .f32⟩
  | .hbm, ⟨22, _⟩ => ⟨S8x20000x1, .f32⟩
  | .hbm, ⟨23, _⟩ => ⟨S_, .f32⟩
  | .hbm, ⟨24, _⟩ => ⟨S8x20000x1, .f32⟩
  | .hbm, ⟨25, _⟩ => ⟨S8x20000x1, .f32⟩
  | .hbm, ⟨26, _⟩ => ⟨S8x20000x1, .f32⟩
  | .hbm, ⟨27, _⟩ => ⟨S_, .f32⟩
  | .hbm, ⟨28, _⟩ => ⟨S8x20000x1, .f32⟩
  | .hbm, ⟨29, _⟩ => ⟨S8x20000x1, .f32⟩
  | .hbm, ⟨30, _⟩ => ⟨S8x20000x1, .f32⟩
  | .hbm, ⟨31, _⟩ => ⟨S8x20000x1, .f32⟩
  | .hbm, ⟨32, _⟩ => ⟨S8x20000x4, .f32⟩
  | .hbm, ⟨33, _⟩ => ⟨S8x64x1, .f32⟩
  | .hbm, ⟨34, _⟩ => ⟨S8x64x1, .f32⟩
  | .hbm, ⟨35, _⟩ => ⟨S8x64x1, .f32⟩
  | .hbm, ⟨36, _⟩ => ⟨S8x64x1, .f32⟩
  | .hbm, ⟨37, _⟩ => ⟨S8x64x1, .f32⟩
  | .hbm, ⟨38, _⟩ => ⟨S_, .f32⟩
  | .hbm, ⟨39, _⟩ => ⟨S8x64x1, .f32⟩
  | .hbm, ⟨40, _⟩ => ⟨S8x64x1, .f32⟩
  | .hbm, ⟨41, _⟩ => ⟨S8x64x1, .f32⟩
  | .hbm, ⟨42, _⟩ => ⟨S_, .f32⟩
  | .hbm, ⟨43, _⟩ => ⟨S8x64x1, .f32⟩
  | .hbm, ⟨44, _⟩ => ⟨S8x64x1, .f32⟩
  | .hbm, ⟨45, _⟩ => ⟨S8x64x1, .f32⟩
  | .hbm, ⟨46, _⟩ => ⟨S8x64x1, .f32⟩
  | .hbm, ⟨47, _⟩ => ⟨S8x64x4, .f32⟩
  | .hbm, ⟨48, _⟩ => ⟨S8x20000x1x4, .f32⟩
  | .hbm, ⟨49, _⟩ => ⟨S8x1x64x4, .f32⟩
  | .hbm, ⟨50, _⟩ => ⟨S8x20000x64x4, .f32⟩
  | .hbm, ⟨51, _⟩ => ⟨S8x20000x64x4, .f32⟩
  | .hbm, ⟨52, _⟩ => ⟨S8x20000x64x4, .f32⟩
  | .hbm, ⟨53, _⟩ => ⟨S8x20000x64x4, .f32⟩
  | .hbm, ⟨54, _⟩ => ⟨S_, .f32⟩
  | .hbm, ⟨55, _⟩ => ⟨S8x20000x64, .f32⟩
  | .hbm, ⟨56, _⟩ => ⟨S8x20000x1x4, .f32⟩
  | .hbm, ⟨57, _⟩ => ⟨S8x1x64x4, .f32⟩
  | .hbm, ⟨58, _⟩ => ⟨S8x20000x64x4, .f32⟩
  | .hbm, ⟨59, _⟩ => ⟨S8x20000x64x4, .f32⟩
  | .hbm, ⟨60, _⟩ => ⟨S8x20000x64x4, .f32⟩
  | .hbm, ⟨61, _⟩ => ⟨S8x20000x64x4, .f32⟩
  | .hbm, ⟨62, _⟩ => ⟨S_, .f32⟩
  | .hbm, ⟨63, _⟩ => ⟨S8x20000x64, .f32⟩
  | .hbm, ⟨64, _⟩ => ⟨S8x64x20000, .f32⟩
  | .hbm, ⟨65, _⟩ => ⟨S8x64x20000, .f32⟩
  | .hbm, ⟨66, _⟩ => ⟨S8x64x20000, .f32⟩
  | .hbm, ⟨67, _⟩ => ⟨S8x64x4, .f32⟩
  | .hbm, ⟨68, _⟩ => ⟨S8x64x4, .i32⟩
  | .hbm, ⟨69, _⟩ => ⟨S8x64x20000, .f32⟩
  | .hbm, ⟨70, _⟩ => ⟨S8x64x4, .f32⟩
  | .hbm, ⟨71, _⟩ => ⟨S8x64x4, .i32⟩
  | .hbm, ⟨72, _⟩ => ⟨S8x64x8, .i32⟩
  | .hbm, ⟨73, _⟩ => ⟨S8x512, .i32⟩
  | .hbm, ⟨74, _⟩ => ⟨S4, .i32⟩
  | .hbm, ⟨75, _⟩ => ⟨S4, .i32⟩
  | .hbm, ⟨76, _⟩ => ⟨S8, .i32⟩
  | .hbm, ⟨77, _⟩ => ⟨S1x8, .i32⟩
  | .hbm, ⟨78, _⟩ => ⟨S1x1x1x8, .i32⟩
  | .hbm, ⟨79, _⟩ => ⟨S8x1x64x8, .i32⟩
  | .hbm, ⟨80, _⟩ => ⟨S8x512, .i32⟩
  | _, _ => ⟨S8x20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_4 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_5 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_cst_6 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_values : Ref sig .tc := ⟨.hbm, 67, rfl⟩
abbrev main_indices : Ref sig .tc := ⟨.hbm, 68, rfl⟩
abbrev main_v56 : Ref sig .tc := ⟨.hbm, 69, rfl⟩
abbrev main_values_7 : Ref sig .tc := ⟨.hbm, 70, rfl⟩
abbrev main_indices_8 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩

abbrev nD : Nat := 1
abbrev τ : Topo := Topo.v7x

variable {F : FTy → Type} [FloatOps F]
-- ==== Proof.Chain.lean ====
/-
  THE KERNEL'S ARITHMETIC IN NAMES. One grid step of the kernel goes, for each of the two box arrays and each half of
  the 32-row target block, through the 157 tiles of 128 boxes, keeping in every (row, lane) the four smallest costs met so
  far and the tiles they were met in; then four rounds pick the four smallest of the 512 kept costs of every row. This
  module names those pieces (`cost`, `step`, `tilesFrom`, `pick`, `strike`) over any float interpretation and proves that
  what one counted loop's trip yields is `tilesFrom` over 32 tiles.
-/
module

public import proofs.«01_k».proof.Proof.Gen.KernelIdeal.Loops

@[expose] public section

set_option maxRecDepth 16384

noncomputable section

namespace Cert.KernelIdeal.Top4

open Idealize.ShloMosaic Idealize.ShloMosaic.Tactic Idealize.SL.Sem Cert.KernelIdeal.Gen

variable {F : FTy → Type} [FloatOps F]

/-- The carried value: four costs, ascending, then the tiles they were met in. -/
abbrev St (F : FTy → Type) : Type :=
  FVec F S32x128 .f32 × FVec F S32x128 .f32 × FVec F S32x128 .f32 × FVec F S32x128 .f32
    × FVec F S32x128 .f32 × FVec F S32x128 .f32 × FVec F S32x128 .f32 × FVec F S32x128 .f32

/-- The carried value the loops start from: four infinities, four zeros. -/
def st0 : St F :=
  let inf : FVec F S32x128 .f32 := broadcast S32x128 (Scalar.ofBits .f32 0x7F800000#32)
  let z : FVec F S32x128 .f32 := broadcast S32x128 (Scalar.ofBits .f32 0x00000000#32)
  (inf, inf, inf, inf, z, z, z, z)

/-- Coordinate `a` of the 32 target rows' boxes. -/
def tcol (a : Fin 2 → Nat) (h : S32x4.Slices a S32x1) (rows : FVec F S32x4 .f32) : FVec F S32x1 .f32 :=
  extractStridedSlice S32x1 a rows h

/-- The midpoint of two columns. -/
def tmid (x y : FVec F S32x1 .f32) : FVec F S32x1 .f32 :=
  divf (addf x y) (broadcast S32x1 (Scalar.ofBits .f32 0x40000000#32))

/-- The 32 target boxes' centre `x`, centre `y`, width and height. -/
def words (rows : FVec F S32x4 .f32) : FVec F S32x1 .f32 × FVec F S32x1 .f32 × FVec F S32x1 .f32 × FVec F S32x1 .f32 :=
  (tmid (tcol ![0, 0] slices_S32x4_o0_0_S32x1 rows) (tcol ![0, 2] slices_S32x4_o0_2_S32x1 rows),
   tmid (tcol ![0, 1] slices_S32x4_o0_1_S32x1 rows) (tcol ![0, 3] slices_S32x4_o0_3_S32x1 rows),
   subf (tcol ![0, 2] slices_S32x4_o0_2_S32x1 rows) (tcol ![0, 0] slices_S32x4_o0_0_S32x1 rows),
   subf (tcol ![0, 3] slices_S32x4_o0_3_S32x1 rows) (tcol ![0, 1] slices_S32x4_o0_1_S32x1 rows))

/-- Coordinate row `a` of a tile. -/
def brow (a : Fin 2 → Nat) (h : S4x128.Slices a S1x128) (slab : Vec F S1x1x4x128 .f32) : FVec F S1x128 .f32 :=
  extractStridedSlice S1x128 a (shapeCast S4x128 slab shapeCasts_S1x1x4x128_S4x128) h

/-- The midpoint of two coordinate rows. -/
def bmid (x y : FVec F S1x128 .f32) : FVec F S1x128 .f32 :=
  divf (addf x y) (broadcast S1x128 (Scalar.ofBits .f32 0x40000000#32))

/-- The distance of one box word (a row) from one target word (a column), in every (row, lane). -/
def gap (x : FVec F S1x128 .f32) (w : FVec F S32x1 .f32) : FVec F S32x128 .f32 :=
  absf (subf (broadcastTo S32x128 x broadcasts_S1x128_S32x128) (broadcastTo S32x128 w broadcasts_S32x1_S32x128))

/-- The L1 costs of a tile's 128 boxes against the 32 targets. -/
def cost (w : FVec F S32x1 .f32 × FVec F S32x1 .f32 × FVec F S32x1 .f32 × FVec F S32x1 .f32)
    (slab : Vec F S1x1x4x128 .f32) : FVec F S32x128 .f32 :=
  let x0 := brow ![0, 0] slices_S4x128_o0_0_S1x128 slab
  let y0 := brow ![1, 0] slices_S4x128_o1_0_S1x128 slab
  let x1 := brow ![2, 0] slices_S4x128_o2_0_S1x128 slab
  let y1 := brow ![3, 0] slices_S4x128_o3_0_S1x128 slab
  addf (addf (addf (gap (bmid x0 x1) w.1) (gap (bmid y0 y1) w.2.1)) (gap (subf x1 x0) w.2.2.1)) (gap (subf y1 y0) w.2.2.2)

/-- One tile met: its cost `c` goes into the four kept, in order, and its number `tf` with it. -/
def step (c : FVec F S32x128 .f32) (tf : F .f32) (s : St F) : St F :=
  let t : FVec F S32x128 .f32 := broadcast S32x128 tf
  let b1 := cmpf .olt c s.1
  let b2 := cmpf .olt c s.2.1
  let b3 := cmpf .olt c s.2.2.1
  let b4 := cmpf .olt c s.2.2.2.1
  (minimumf s.1 c, minimumf s.2.1 (maximumf s.1 c), minimumf s.2.2.1 (maximumf s.2.1 c),
    minimumf s.2.2.2.1 (maximumf s.2.2.1 c),
    select b1 t s.2.2.2.2.1, select b2 (select b1 s.2.2.2.2.1 t) s.2.2.2.2.2.1,
    select b3 (select b2 s.2.2.2.2.2.1 t) s.2.2.2.2.2.2.1, select b4 (select b3 s.2.2.2.2.2.2.1 t) s.2.2.2.2.2.2.2)

/-- `n` tiles met one after the other, tile `j`'s cost and number given by `f j`. -/
def tilesFrom {N : Nat} (f : Fin N → FVec F S32x128 .f32 × F .f32) : (n : Nat) → n ≤ N → St F → St F
  | 0, _, s => s
  | n + 1, h, s => step (f ⟨n, h⟩).1 (f ⟨n, h⟩).2 (tilesFrom f n (Nat.le_of_succ_le h) s)

/-- Tile at offset `off` of a staged box block. -/
def slab (arg : Memref sig .tc .vmem S1x157x4x128 .f32) (X : BufTy.Contents (Elt F) arg.view.ty)
    (off : Fin 4 → Nat) (h : ∀ a, off a + S1x1x4x128.size a ≤ S1x157x4x128.size a) : Vec F S1x1x4x128 .f32 :=
  View.readAt (Elt F) arg.view (Rect.unit (s := S1x157x4x128) off S1x1x4x128.size h).toLoadRect X

/-- The tile a trip `k` meets at place `j`, and its number. -/
def tripTile (w : FVec F S32x1 .f32 × FVec F S32x1 .f32 × FVec F S32x1 .f32 × FVec F S32x1 .f32)
    (arg : Memref sig .tc .vmem S1x157x4x128 .f32) (X : BufTy.Contents (Elt F) arg.view.ty)
    (k : Fin k0_t1_loop.trips) (j : Fin 32) : FVec F S32x128 .f32 × F .f32 :=
  (cost w (slab arg X (k0_off1 k (BitVec.ofNat 32 j.val)) (k0_off1_inb k j)),
    Scalar.sitofp .f32 (Scalar.addi (Scalar.muli (Scf.iv 0#32 1#32 k) 32#32) (BitVec.ofNat 32 j.val)))

/-- The first 32 target rows. -/
def lowRows (v0 : Vec F S1x64x4 .f32) : FVec F S32x4 .f32 :=
  extractStridedSlice S32x4 ![0, 0] (shapeCast S64x4 v0 shapeCasts_S1x64x4_S64x4) slices_S64x4_o0_0_S32x4

/-- The last 32 target rows. -/
def highRows (v0 : Vec F S1x64x4 .f32) : FVec F S32x4 .f32 :=
  extractStridedSlice S32x4 ![32, 0] (shapeCast S64x4 v0 shapeCasts_S1x64x4_S64x4) slices_S64x4_o32_0_S32x4

/-- Tile `128 + j`, which the kernel meets after its loop, and its number, a printed constant. -/
def tailTile (w : FVec F S32x1 .f32 × FVec F S32x1 .f32 × FVec F S32x1 .f32 × FVec F S32x1 .f32)
    (arg : Memref sig .tc .vmem S1x157x4x128 .f32) (X : BufTy.Contents (Elt F) arg.view.ty)
    (j : Fin 29) : FVec F S32x128 .f32 × F .f32 :=
  (cost w (slab arg X ![0, 128 + j.val, 0, 0] (by
      intro a
      have hj := j.isLt
      fin_cases a <;> simp [S1x1x4x128, S1x157x4x128] <;> omega)),
    Scalar.ofBits .f32 (BitVec.ofNat 32 (0x43000000 + 0x10000 * j.val)))

/-- The carried value after all 157 tiles. -/
def scanned (w : FVec F S32x1 .f32 × FVec F S32x1 .f32 × FVec F S32x1 .f32 × FVec F S32x1 .f32)
    (arg : Memref sig .tc .vmem S1x157x4x128 .f32) (X : BufTy.Contents (Elt F) arg.view.ty) : St F :=
  tilesFrom (tailTile w arg X) 29 (Nat.le_refl _)
    (tilesFrom (tripTile w arg X ⟨3, by decide⟩) 32 (Nat.le_refl _)
      (tilesFrom (tripTile w arg X ⟨2, by decide⟩) 32 (Nat.le_refl _)
        (tilesFrom (tripTile w arg X ⟨1, by decide⟩) 32 (Nat.le_refl _)
          (tilesFrom (tripTile w arg X ⟨0, by decide⟩) 32 (Nat.le_refl _) st0))))

/-- The lane number of every (row, lane). -/
def lanes : FVec F S32x128 .f32 := sitofp .f32 (iota .tc S32x128 32 [1] iota_S32x128_d1_w32)

/-- The box number of tile `a` in every (row, lane): 128 tiles' worth of lanes, and the lane. -/
def boxNo (a : FVec F S32x128 .f32) : FVec F S32x128 .f32 :=
  addf (mulf a (broadcast S32x128 (Scalar.ofBits .f32 0x43000000#32))) lanes

/-- Four tables side by side. -/
def four (x y z u : FVec F S32x128 .f32) : FVec F S32x512 .f32 :=
  concatenate S32x512 1 [⟨S32x128, x⟩, ⟨S32x128, y⟩, ⟨S32x128, z⟩, ⟨S32x128, u⟩]
    concatenates_S32x128_S32x128_S32x128_S32x128_S32x512_d1

/-- The 512 kept costs of every row. -/
def candV (s : St F) : FVec F S32x512 .f32 := four s.1 s.2.1 s.2.2.1 s.2.2.2.1

/-- The boxes the kept costs are of. -/
def candQ (s : St F) : FVec F S32x512 .f32 :=
  four (boxNo s.2.2.2.2.1) (boxNo s.2.2.2.2.2.1) (boxNo s.2.2.2.2.2.2.1) (boxNo s.2.2.2.2.2.2.2)

/-- The least entry of every row. -/
def rowMin (v : FVec F S32x512 .f32) : FVec F S32x1 .f32 :=
  shapeCast S32x1 (multiReduction .minimumf [1] S32 v 0x7F800000#32 reduces_S32x512_S32 (.inl rfl) rfl) shapeCasts_S32_S32x1

/-- The box a round picks in every row: the lowest numbered among those of the least cost. -/
def pick (v q : FVec F S32x512 .f32) : FVec F S32x1 .f32 :=
  rowMin (select (cmpf .oeq v (broadcastTo S32x512 (rowMin v) broadcasts_S32x1_S32x512)) q
    (broadcast S32x512 (Scalar.ofBits .f32 0x4E6E6B28#32)))

/-- The costs left when the picked box is taken out. -/
def strike (v q : FVec F S32x512 .f32) : FVec F S32x512 .f32 :=
  select (cmpf .oeq q (broadcastTo S32x512 (pick v q) broadcasts_S32x1_S32x512))
    (broadcast S32x512 (Scalar.ofBits .f32 0x7F800000#32)) v

/-- The costs round `r` picks from. -/
def left (v q : FVec F S32x512 .f32) : Nat → FVec F S32x512 .f32
  | 0 => v
  | r + 1 => strike (left v q r) q

/-- What round `r` writes: the picked boxes' numbers as integers. -/
def picked (s : St F) (r : Nat) : IVec S1x32x1 32 :=
  shapeCast S1x32x1 (fptosi 32 (pick (left (candV s) (candQ s) r) (candQ s))) shapeCasts_S32x1_S1x32x1

/-- Round `r`'s store, at row `g` and column `q + r` of the block. -/
def piece (g q r : Nat) (hg : g + 32 ≤ 64) (hq : q + r + 1 ≤ 8) (s : St F) : View.Piece (Elt F) S1x64x8 .i32 :=
  ⟨Rect.unit (s := S1x64x8) ![0, g, q + r] S1x32x1.size (by
      intro a; fin_cases a <;> simp [S1x32x1, S1x64x8] <;> omega), picked s r⟩

/-- The four rounds' stores, last first. -/
def quad (g q : Nat) (hg : g + 32 ≤ 64) (hq : q + 4 ≤ 8) (s : St F) : List (View.Piece (Elt F) S1x64x8 .i32) :=
  [piece g q 3 hg (by omega) s, piece g q 2 hg (by omega) s, piece g q 1 hg (by omega) s, piece g q 0 hg (by omega) s]

section
variable (𝒱 : Variants) (c : Dev nD) (bd : Option 𝒱.V) (i : grid0.Coords)
    (arg1 : Memref sig .tc .vmem S1x157x4x128 .f32) (harg1 : arg1.IsWhole)
    (arg2 : Memref sig .tc .vmem S1x157x4x128 .f32) (harg2 : arg2.IsWhole)
    (arg3 : Memref sig .tc .vmem S1x64x4 .f32) (harg3 : arg3.IsWhole)
    (arg4 : Memref sig .tc .vmem S1x64x8 .i32) (harg4 : arg4.IsWhole)

set_option maxHeartbeats 4000000 in
/-- A trip of the first loop meets its 32 tiles in order. -/
theorem tripR1 (v0 : Vec F S1x64x4 .f32) (X : BufTy.Contents (Elt F) arg1.view.ty) (k : Fin k0_t1_loop.trips) (acc : St F) :
    tripR_k0_t1 (F := F) 𝒱 c bd i arg1 harg1 arg2 harg2 arg3 harg3 arg4 harg4 v0 X k acc
      = tilesFrom (tripTile (words (lowRows v0)) arg1 X k) 32 (Nat.le_refl _) acc := by
  sl_kernel_rfl

end

end Cert.KernelIdeal.Top4

end
-- ==== Proof.Pieces.lean ====
/-
  WHAT ONE GRID STEP STORES. The sixteen stores of the kernel's body, each 32 rows of one column of the output block, are the
  four rounds' picks (`Chain.lean`) for each box array and each half of the target rows.
-/
module

public import proofs.«01_k».proof.Proof.Gen.KernelIdeal.Frame
public import proofs.«01_k».proof.Proof.Chain

@[expose] public section

set_option maxRecDepth 16384

noncomputable section

namespace Cert.KernelIdeal.Top4

open Idealize.ShloMosaic Idealize.ShloMosaic.Tactic Idealize.SL.Sem Cert.KernelIdeal.Gen

variable {F : FTy → Type} [FloatOps F]

/-- The staged target block as the body loads it. -/
def tgtBlock (arg3 : Memref sig .tc .vmem S1x64x4 .f32) (harg3 : arg3.IsWhole) (x2 : Vec F S1x64x4 .f32) : Vec F S1x64x4 .f32 :=
  View.readAt (Elt F) arg3.view (Rect.unit (s := S1x64x4) ![0, 0, 0] S1x64x4.size inb_S1x64x4_S1x64x4_0_0_0).toLoadRect (harg3.unread x2)

set_option maxHeartbeats 8000000 in
/-- The body's stores, last first. -/
theorem run_pieces (c : Dev nD) (i : grid0.Coords)
    (arg1 : Memref sig .tc .vmem S1x157x4x128 .f32) (harg1 : arg1.IsWhole)
    (arg2 : Memref sig .tc .vmem S1x157x4x128 .f32) (harg2 : arg2.IsWhole)
    (arg3 : Memref sig .tc .vmem S1x64x4 .f32) (harg3 : arg3.IsWhole)
    (arg4 : Memref sig .tc .vmem S1x64x8 .i32) (harg4 : arg4.IsWhole)
    (x0 : Vec F S1x157x4x128 .f32) (x1 : Vec F S1x157x4x128 .f32) (x2 : Vec F S1x64x4 .f32) :
    (kernelRun0_A (F := F) c i arg1 harg1 arg2 harg2 arg3 harg3 arg4 harg4 x0 x1 x2).1
      = quad 32 4 (by decide) (by decide) (scanned (words (highRows (tgtBlock arg3 harg3 x2))) arg2 (harg2.unread x1))
        ++ quad 0 4 (by decide) (by decide) (scanned (words (lowRows (tgtBlock arg3 harg3 x2))) arg2 (harg2.unread x1))
        ++ quad 32 0 (by decide) (by decide) (scanned (words (highRows (tgtBlock arg3 harg3 x2))) arg1 (harg1.unread x0))
        ++ quad 0 0 (by decide) (by decide) (scanned (words (lowRows (tgtBlock arg3 harg3 x2))) arg1 (harg1.unread x0)) := by
  sl_kernel_rfl

end Cert.KernelIdeal.Top4

end
-- ==== Proof.Keep.lean ====
/-
  KEEPING THE FOUR SMALLEST. A sequence of costs is met one at a time; four of them are kept, ascending, each with the place
  it was met at, equal costs in the order they were met. Stated over any sequence of extended reals none of which is `⊤`
  (`⊤` marks an empty slot).
-/
module

public import Mathlib.Data.EReal.Basic
public import Mathlib.Tactic.ByContra

@[expose] public section

namespace Cert.KernelIdeal.Top4

/-- After the first `T` costs of `c`, the slots `m1 … m4` hold costs met at places `n1 … n4` or `⊤`, ascending, equal costs by
    place; and every cost met either is in a slot or comes after the fourth. -/
structure Kept (c : ℕ → EReal) (T : ℕ) (m1 m2 m3 m4 : EReal) (n1 n2 n3 n4 : ℕ) : Prop where
  v1 : m1 = ⊤ ∨ (n1 < T ∧ m1 = c n1)
  v2 : m2 = ⊤ ∨ (n2 < T ∧ m2 = c n2)
  v3 : m3 = ⊤ ∨ (n3 < T ∧ m3 = c n3)
  v4 : m4 = ⊤ ∨ (n4 < T ∧ m4 = c n4)
  o1 : m1 < m2 ∨ (m1 = m2 ∧ (m2 = ⊤ ∨ n1 < n2))
  o2 : m2 < m3 ∨ (m2 = m3 ∧ (m3 = ⊤ ∨ n2 < n3))
  o3 : m3 < m4 ∨ (m3 = m4 ∧ (m4 = ⊤ ∨ n3 < n4))
  dom : ∀ s, s < T → (s = n1 ∧ c s = m1) ∨ (s = n2 ∧ c s = m2) ∨ (s = n3 ∧ c s = m3) ∨ (s = n4 ∧ c s = m4)
    ∨ m4 < c s ∨ (m4 = c s ∧ n4 < s)

/-- Nothing met: four empty slots. -/
theorem Kept.zero (c : ℕ → EReal) : Kept c 0 ⊤ ⊤ ⊤ ⊤ 0 0 0 0 where
  v1 := Or.inl rfl
  v2 := Or.inl rfl
  v3 := Or.inl rfl
  v4 := Or.inl rfl
  o1 := Or.inr ⟨rfl, Or.inl rfl⟩
  o2 := Or.inr ⟨rfl, Or.inl rfl⟩
  o3 := Or.inr ⟨rfl, Or.inl rfl⟩
  dom := fun _ h => absurd h (Nat.not_lt_zero _)

/-- The next cost goes into its place, the ones behind it move up by one and the last falls out. -/
theorem Kept.succ {c : ℕ → EReal} (hc : ∀ s, c s ≠ ⊤) {T : ℕ} {m1 m2 m3 m4 : EReal} {n1 n2 n3 n4 : ℕ}
    (h : Kept c T m1 m2 m3 m4 n1 n2 n3 n4) :
    Kept c (T + 1) (min m1 (c T)) (min m2 (max m1 (c T))) (min m3 (max m2 (c T))) (min m4 (max m3 (c T)))
      (if c T < m1 then T else n1) (if c T < m2 then (if c T < m1 then n1 else T) else n2)
      (if c T < m3 then (if c T < m2 then n2 else T) else n3) (if c T < m4 then (if c T < m3 then n3 else T) else n4) := by
  obtain ⟨v1, v2, v3, v4, o1, o2, o3, dom⟩ := h
  have hT := hc T
  have l12 : m1 ≤ m2 := o1.elim le_of_lt fun h => h.1.le
  have l23 : m2 ≤ m3 := o2.elim le_of_lt fun h => h.1.le
  have l34 : m3 ≤ m4 := o3.elim le_of_lt fun h => h.1.le
  by_cases b1 : c T < m1
  · have b2 := b1.trans_le l12
    have b3 := b2.trans_le l23
    have b4 := b3.trans_le l34
    simp only [b1, b2, b3, b4, if_true, min_eq_right b1.le, max_eq_left b1.le, max_eq_left b2.le, max_eq_left b3.le,
      min_eq_right l12, min_eq_right l23, min_eq_right l34]
    refine ⟨by grind, by grind, by grind, by grind, by grind, by grind, by grind, fun s hs => ?_⟩
    have := hc s
    rcases Nat.lt_succ_iff_lt_or_eq.mp hs with hs | rfl
    · have := dom s hs
      grind
    · grind
  by_cases b2 : c T < m2
  · have b3 := b2.trans_le l23
    have b4 := b3.trans_le l34
    have b1' := not_lt.mp b1
    simp only [b1, b2, b3, b4, if_true, if_false, min_eq_left b1', max_eq_right b1', min_eq_right b2.le, max_eq_left b2.le, max_eq_left b3.le,
      min_eq_right l23, min_eq_right l34]
    refine ⟨by grind, by grind, by grind, by grind, by grind, by grind, by grind, fun s hs => ?_⟩
    have := hc s
    rcases Nat.lt_succ_iff_lt_or_eq.mp hs with hs | rfl
    · have := dom s hs
      grind
    · grind
  by_cases b3 : c T < m3
  · have b4 := b3.trans_le l34
    have b2' := not_lt.mp b2
    have b1' := l12.trans b2'
    simp only [b1, b2, b3, b4, if_true, if_false, min_eq_left b1', max_eq_right b1', min_eq_left b2', max_eq_right b2', min_eq_right b3.le,
      max_eq_left b3.le, min_eq_right l34]
    refine ⟨by grind, by grind, by grind, by grind, by grind, by grind, by grind, fun s hs => ?_⟩
    have := hc s
    rcases Nat.lt_succ_iff_lt_or_eq.mp hs with hs | rfl
    · have := dom s hs
      grind
    · grind
  have b3' := not_lt.mp b3
  have b2' := l23.trans b3'
  have b1' := l12.trans b2'
  by_cases b4 : c T < m4
  · simp only [b1, b2, b3, b4, if_true, if_false, min_eq_left b1', max_eq_right b1', min_eq_left b2', max_eq_right b2', min_eq_left b3',
      max_eq_right b3', min_eq_right b4.le]
    refine ⟨by grind, by grind, by grind, by grind, by grind, by grind, by grind, fun s hs => ?_⟩
    have := hc s
    rcases Nat.lt_succ_iff_lt_or_eq.mp hs with hs | rfl
    · have := dom s hs
      grind
    · grind
  · have b4' := not_lt.mp b4
    simp only [b1, b2, b3, b4, if_false, min_eq_left b1', max_eq_right b1', min_eq_left b2', max_eq_right b2', min_eq_left b3',
      max_eq_right b3', min_eq_left b4']
    refine ⟨by grind, by grind, by grind, by grind, by grind, by grind, by grind, fun s hs => ?_⟩
    have := hc s
    rcases Nat.lt_succ_iff_lt_or_eq.mp hs with hs | rfl
    · have := dom s hs
      grind
    · grind

end Cert.KernelIdeal.Top4

end
-- ==== Proof.Least.lean ====
/-
  THE SMALLEST, ONE AFTER THE OTHER. Among the places `0 … N-1` with costs `C`, the least place outside a set is the one of
  least cost, the earliest among equals. Four rounds over a table of kept costs pick those places, and a stable sort puts
  those places first: both are read here as the same property, which determines the place.
-/
module

public import Mathlib.Data.EReal.Basic
public import Mathlib.Data.Finset.Max
public import Mathlib.Data.Prod.Lex
public import Mathlib.Data.Finset.Lattice.Fold
public import Idealize.ShloMosaic.Lib.SortFacts

@[expose] public section

noncomputable section

namespace Cert.KernelIdeal.Top4

open Idealize.ShloMosaic

/-- `p` is the least of the first `N` places outside `S`: of least cost, and the earliest of those. -/
def Least (C : ℕ → EReal) (N : ℕ) (S : Finset ℕ) (p : ℕ) : Prop :=
  p < N ∧ p ∉ S ∧ ∀ s, s < N → s ∉ S → s ≠ p → C p < C s ∨ (C p = C s ∧ p < s)

/-- There is a least place outside a set with fewer than `N` members. -/
theorem exists_least (C : ℕ → EReal) (N : ℕ) (S : Finset ℕ) (h : S.card < N) : ∃ p, Least C N S p := by
  have hne : (Finset.range N \ S).Nonempty := by
    rw [Finset.sdiff_nonempty]
    intro hsub
    have := Finset.card_le_card hsub
    rw [Finset.card_range] at this
    omega
  obtain ⟨p, hp, hmin⟩ := Finset.exists_min_image (Finset.range N \ S) (fun s => toLex (C s, s)) hne
  rw [Finset.mem_sdiff, Finset.mem_range] at hp
  refine ⟨p, hp.1, hp.2, fun s hs hsS hne => ?_⟩
  have := hmin s (Finset.mem_sdiff.mpr ⟨Finset.mem_range.mpr hs, hsS⟩)
  rw [Prod.Lex.toLex_le_toLex] at this
  rcases this with h | ⟨h1, h2⟩
  · exact Or.inl h
  · exact Or.inr ⟨h1, lt_of_le_of_ne h2 (Ne.symm hne)⟩

/-- There is only one. -/
theorem Least.unique {C : ℕ → EReal} {N : ℕ} {S : Finset ℕ} {p p' : ℕ} (h : Least C N S p) (h' : Least C N S p') : p = p' := by
  by_contra hne
  have a := h.2.2 p' h'.1 h'.2.1 (Ne.symm hne)
  have b := h'.2.2 p h.1 h.2.1 hne
  rcases a with a | ⟨a1, a2⟩ <;> rcases b with b | ⟨b1, b2⟩
  · exact lt_asymm a b
  · exact absurd b1 a.ne'
  · exact absurd a1 b.ne'
  · omega

/-- The least place outside `S` does not change with costs that agree below `N`. -/
theorem Least.congr {C C' : ℕ → EReal} {N : ℕ} {S : Finset ℕ} {p : ℕ} (hC : ∀ s, s < N → C s = C' s) (h : Least C N S p) :
    Least C' N S p := by
  refine ⟨h.1, h.2.1, fun s hs hsS hne => ?_⟩
  rw [← hC p h.1, ← hC s hs]
  exact h.2.2 s hs hsS hne

/-- Places from `n` on that all cost more than those below `n` do not matter while fewer than `n` are taken out. -/
theorem Least.restrict {C : ℕ → EReal} {n N : ℕ} {S : Finset ℕ} {p : ℕ} (hn : n ≤ N) (hS : S.card < n)
    (hC : ∀ s s', s < n → n ≤ s' → s' < N → C s < C s') (h : Least C N S p) : Least C n S p := by
  have hp : p < n := by
    by_contra hp
    have : ∃ s, s < n ∧ s ∉ S := by
      by_contra hall
      push Not at hall
      have : Finset.range n ⊆ S := fun s hs => hall s (Finset.mem_range.mp hs)
      have := Finset.card_le_card this
      rw [Finset.card_range] at this
      omega
    obtain ⟨s, hs, hsS⟩ := this
    have hlt := hC s p hs (not_lt.mp hp) h.1
    rcases h.2.2 s (by omega) hsS (by omega) with h1 | ⟨h1, -⟩
    · exact lt_asymm hlt h1
    · exact hlt.ne' h1
  exact ⟨hp, h.2.1, fun s hs => h.2.2 s (by omega)⟩

/-- The places picked by `r` rounds, each the least outside those before it. -/
def Picks (C : ℕ → EReal) (N : ℕ) (σ : ℕ → ℕ) (r : ℕ) : Prop :=
  ∀ j, j < r → Least C N ((Finset.range j).image σ) (σ j)

/-- Two runs of rounds pick the same places. -/
theorem Picks.unique {C : ℕ → EReal} {N : ℕ} {σ τ : ℕ → ℕ} {r : ℕ} (h : Picks C N σ r) (h' : Picks C N τ r) :
    ∀ j, j < r → σ j = τ j := by
  intro j
  induction j using Nat.strong_induction_on with
  | _ j ih =>
    intro hj
    have himg : (Finset.range j).image σ = (Finset.range j).image τ :=
      Finset.image_congr fun i hi => ih i (Finset.mem_range.mp hi) ((Finset.mem_range.mp hi).trans hj)
    have a := h j hj
    rw [himg] at a
    exact a.unique (h' j hj)

section Stable
variable {ι : Type} (G : ι → EReal) (P : ι → ι → Prop)

/-- Smaller cost first, and the order `P` among equals. -/
def ByCost (a b : ι) : Prop := G a < G b ∨ (G a = G b ∧ P a b)

/-- An entry that stands before every entry of an ordered list goes in and leaves it ordered. -/
theorem insert_byCost (a : ι) (l : List ι) (ha : ∀ b ∈ l, P a b) (hl : l.Pairwise (ByCost G P)) :
    (insertBefore (fun x y => decide (G x < G y)) a l).Pairwise (ByCost G P) := by
  induction l with
  | nil => exact List.pairwise_singleton _ _
  | cons b l ih =>
    obtain ⟨hb, hl'⟩ := List.pairwise_cons.mp hl
    unfold insertBefore
    by_cases h : G b < G a
    · simp only [h, decide_true, if_true]
      refine List.pairwise_cons.mpr ⟨fun x hx => ?_, ih (fun x hx => ha x (List.mem_cons_of_mem _ hx)) hl'⟩
      rcases List.mem_cons.mp ((perm_insertBefore _ a l).mem_iff.mp hx) with rfl | hx'
      · exact Or.inl h
      · exact hb x hx'
    · simp only [h, decide_false]
      refine List.pairwise_cons.mpr ⟨fun x hx => ?_, hl⟩
      have hab := not_lt.mp h
      have hle : G a ≤ G x := by
        rcases List.mem_cons.mp hx with rfl | hx'
        · exact hab
        · exact hab.trans ((hb x hx').elim le_of_lt fun h => h.1.le)
      exact (lt_or_eq_of_le hle).imp id fun he => ⟨he, ha x hx⟩

/-- A stable sort by cost leaves the entries by cost, equal ones in the order they came. -/
theorem sort_byCost (l : List ι) (hl : l.Pairwise P) : (stableSort (fun x y => decide (G x < G y)) l).Pairwise (ByCost G P) := by
  induction l with
  | nil => exact List.Pairwise.nil
  | cons a l ih =>
    obtain ⟨ha, hl'⟩ := List.pairwise_cons.mp hl
    unfold stableSort
    exact insert_byCost G P a _ (fun b hb => ha b ((perm_stableSort _ l).mem_iff.mp hb)) (ih hl')

end Stable

/-- The places a stable sort by cost puts first are the picks. -/
theorem sorted_picks (N : ℕ) (C : ℕ → EReal) (before : Fin N → Fin N → Bool) (hb : ∀ a b, before a b = decide (C a.val < C b.val))
    (r : ℕ) (hr : r ≤ N) :
    Picks C N (fun j => if h : j < N then (sortedFrom before ⟨j, h⟩).val else 0) r := by
  have hbf : before = fun a b : Fin N => decide (C a.val < C b.val) := funext fun a => funext fun b => hb a b
  have hord : ∀ i j : Fin N, i < j → ByCost (fun a : Fin N => C a.val) (· < ·) (sortedFrom before i) (sortedFrom before j) := by
    intro i j hij
    have hp := sort_byCost (fun a : Fin N => C a.val) (· < ·) (List.finRange N) (List.pairwise_lt_finRange N)
    rw [← hbf] at hp
    exact List.pairwise_iff_get.mp hp _ _ (show i.val < j.val from hij)
  intro j hj
  have hjN : j < N := by omega
  simp only [hjN, dif_pos]
  refine ⟨(sortedFrom before ⟨j, hjN⟩).isLt, ?_, ?_⟩
  · rw [Finset.mem_image]
    rintro ⟨i, hi, he⟩
    rw [Finset.mem_range] at hi
    have hiN : i < N := by omega
    simp only [hiN, dif_pos] at he
    have := sortedFrom_injective before (Fin.ext he)
    rw [Fin.mk.injEq] at this
    omega
  · intro s hs hsS hne
    obtain ⟨k, hk⟩ := sortedFrom_surjective before ⟨s, hs⟩
    have hks : (sortedFrom before k).val = s := by rw [hk]
    have hjk : j < k.val := by
      rcases lt_trichotomy j k.val with h | h | h
      · exact h
      · exact absurd (by rw [← hks]; congr; exact Fin.ext h.symm) hne
      · refine absurd (Finset.mem_image.mpr ⟨k.val, Finset.mem_range.mpr h, ?_⟩) hsS
        simp only [k.isLt, dif_pos]
        exact hks
    have := hord ⟨j, hjN⟩ k hjk
    rw [← hks]
    exact this

section Table
variable {ι : Type} [Fintype ι] {C : ℕ → EReal} {N : ℕ} {v q : ι → EReal} {P : ι → ℕ}

/-- What is left of a table of costs `v` of the places `P` when the places `S` are taken out. -/
def leftOf (v : ι → EReal) (P : ι → ℕ) (S : Finset ℕ) (i : ι) : EReal := if P i ∈ S then ⊤ else v i

/-- One round over a table: every entry is empty (`⊤`) or the cost of its place, and the least place outside `S` is in the
    table. The lowest place among the entries of least cost is that least place. -/
theorem round_picks (hN : (N : ℝ) ≤ 1000000000) (hC : ∀ s, C s ≠ ⊤) (hq : ∀ i, q i = ((P i : ℝ) : EReal))
    (hv : ∀ i, v i = ⊤ ∨ (P i < N ∧ v i = C (P i))) (S : Finset ℕ) (p : ℕ) (hp : Least C N S p)
    (hin : ∃ i, P i = p ∧ v i = C p) :
    (Finset.univ.inf fun i => if leftOf v P S i = Finset.univ.inf (leftOf v P S) then q i else ((1000000000 : ℝ) : EReal))
      = ((p : ℝ) : EReal) := by
  obtain ⟨i0, hi0, hv0⟩ := hin
  have hw0 : leftOf v P S i0 = C p := by
    unfold leftOf; rw [hi0, if_neg hp.2.1, hv0]
  have hle : ∀ i, leftOf v P S i ≠ ⊤ → C p ≤ leftOf v P S i ∧ (leftOf v P S i = C p → p ≤ P i) := by
    intro i hi
    have hiS : P i ∉ S := fun h => hi (if_pos h)
    have hwi : leftOf v P S i = v i := if_neg hiS
    rw [hwi] at hi ⊢
    rcases hv i with h | ⟨h1, h2⟩
    · exact absurd h hi
    · by_cases hpi : P i = p
      · rw [h2, hpi]; exact ⟨le_refl _, fun _ => le_refl _⟩
      · rcases hp.2.2 (P i) h1 hiS hpi with h | ⟨h, h'⟩
        · rw [h2]; exact ⟨h.le, fun he => absurd he h.ne'⟩
        · rw [h2]; exact ⟨h.le, fun _ => h'.le⟩
  have hinf : Finset.univ.inf (leftOf v P S) = C p := by
    refine le_antisymm (hw0 ▸ Finset.inf_le (Finset.mem_univ i0)) (Finset.le_inf fun i _ => ?_)
    by_cases hi : leftOf v P S i = ⊤
    · rw [hi]; exact le_top
    · exact (hle i hi).1
  rw [hinf]
  refine le_antisymm ?_ (Finset.le_inf fun i _ => ?_)
  · refine (Finset.inf_le (Finset.mem_univ i0)).trans ?_
    simp only [hw0, if_true, hq, hi0, le_refl]
  · split
    · next h =>
      have := (hle i (by rw [h]; exact hC p)).2 h
      rw [hq]
      exact EReal.coe_le_coe_iff.mpr (Nat.cast_le.mpr this)
    · refine EReal.coe_le_coe_iff.mpr (le_trans ?_ hN)
      exact Nat.cast_le.mpr hp.1.le

/-- Taking the picked place out of what is left. -/
theorem leftOf_insert (hq : ∀ i, q i = ((P i : ℝ) : EReal)) (S : Finset ℕ) (p : ℕ) (i : ι) :
    (if q i = ((p : ℝ) : EReal) then ⊤ else leftOf v P S i) = leftOf v P (insert p S) i := by
  unfold leftOf
  have : q i = ((p : ℝ) : EReal) ↔ P i = p := by
    rw [hq, EReal.coe_eq_coe_iff, Nat.cast_inj]
  simp only [this, Finset.mem_insert]
  by_cases h : P i = p <;> by_cases h' : P i ∈ S <;> simp [h, h']

end Table

end Cert.KernelIdeal.Top4

end
-- ==== Proof.Table.lean ====
/-
  FOUR KEPT PER LANE ARE ENOUGH. Place `t * 128 + l` is met by lane `l` at tile `t`. Every lane keeps its four smallest; while at
  most three places are taken out, the least place left is in some lane's four.
-/
module

public import proofs.«01_k».proof.Proof.Keep
public import proofs.«01_k».proof.Proof.Least

@[expose] public section

namespace Cert.KernelIdeal.Top4

variable {C : ℕ → EReal} {m1 m2 m3 m4 : EReal} {n1 n2 n3 n4 : ℕ} {l : ℕ}

/-- A filled slot's place lies outside the taken set only if it does not come before the least place. -/
theorem slot_taken {N : ℕ} {S : Finset ℕ} {p t n : ℕ} {m : EReal} (hC : ∀ s, C s ≠ ⊤) (hp : Least C N S p) (hpt : t * 128 + l = p) (hN : 157 * 128 ≤ N)
    (hl : l < 128) (hv : m = ⊤ ∨ (n < 157 ∧ m = C (n * 128 + l))) (hlt : m < C p ∨ (m = C p ∧ n < t)) : n * 128 + l ∈ S := by
  by_contra hS
  have hm : n < 157 ∧ m = C (n * 128 + l) := by
    rcases hv with h | h
    · rcases hlt with h' | ⟨h', -⟩
      · exact absurd (h ▸ h') not_top_lt
      · exact absurd (h' ▸ h) (hC p)
    · exact h
  obtain ⟨hn, rfl⟩ := hm
  have hne : n * 128 + l ≠ p := by
    rintro rfl
    rcases hlt with h | ⟨-, h⟩
    · exact lt_irrefl _ h
    · omega
  rcases hp.2.2 (n * 128 + l) (by omega) hS hne with h | ⟨h, h'⟩ <;> rcases hlt with h2 | ⟨h2, h3⟩
  · exact lt_asymm h h2
  · exact h.ne' h2
  · exact h2.ne' h
  · omega

/-- While at most three places are taken out, the least place left is in one of its lane's four slots. -/
theorem Kept.has_least (hC : ∀ s, C s ≠ ⊤) (hl : l < 128) (h : Kept (fun t => C (t * 128 + l)) 157 m1 m2 m3 m4 n1 n2 n3 n4)
    {S : Finset ℕ} (hS : S.card ≤ 3) {p : ℕ} (hp : Least C (157 * 128) S p) (hpl : p % 128 = l) :
    (n1 * 128 + l = p ∧ m1 = C p) ∨ (n2 * 128 + l = p ∧ m2 = C p) ∨ (n3 * 128 + l = p ∧ m3 = C p) ∨ (n4 * 128 + l = p ∧ m4 = C p) := by
  have hpt : p / 128 * 128 + l = p := by omega
  have hp' := hp.1
  have ht : p / 128 < 157 := by omega
  obtain ⟨v1, v2, v3, v4, o1, o2, o3, dom⟩ := h
  have hd := dom (p / 128) ht
  simp only [hpt] at hd
  rcases hd with ⟨h, h'⟩ | ⟨h, h'⟩ | ⟨h, h'⟩ | ⟨h, h'⟩ | h4
  · exact Or.inl ⟨by rw [← h]; exact hpt, h'.symm⟩
  · exact Or.inr (Or.inl ⟨by rw [← h]; exact hpt, h'.symm⟩)
  · exact Or.inr (Or.inr (Or.inl ⟨by rw [← h]; exact hpt, h'.symm⟩))
  · exact Or.inr (Or.inr (Or.inr ⟨by rw [← h]; exact hpt, h'.symm⟩))
  · exfalso
    have hpT := hC p
    have c4 : m4 ≠ ⊤ := by rintro rfl; grind
    have h3 : m3 < C p ∨ (m3 = C p ∧ n3 < p / 128) := by grind
    have c3 : m3 ≠ ⊤ := by grind
    have h2 : m2 < C p ∨ (m2 = C p ∧ n2 < p / 128) := by grind
    have c2 : m2 ≠ ⊤ := by grind
    have h1 : m1 < C p ∨ (m1 = C p ∧ n1 < p / 128) := by grind
    have c1 : m1 ≠ ⊤ := by grind
    have s1 := slot_taken hC hp hpt le_rfl hl v1 h1
    have s2 := slot_taken hC hp hpt le_rfl hl v2 h2
    have s3 := slot_taken hC hp hpt le_rfl hl v3 h3
    have s4 := slot_taken hC hp hpt le_rfl hl v4 h4
    have e1 := (v1.resolve_left c1).2
    have e2 := (v2.resolve_left c2).2
    have e3 := (v3.resolve_left c3).2
    have e4 := (v4.resolve_left c4).2
    have d12 : n1 ≠ n2 := by grind
    have d13 : n1 ≠ n3 := by grind
    have d14 : n1 ≠ n4 := by grind
    have d23 : n2 ≠ n3 := by grind
    have d24 : n2 ≠ n4 := by grind
    have d34 : n3 ≠ n4 := by grind
    have hsub : ({n1 * 128 + l, n2 * 128 + l, n3 * 128 + l, n4 * 128 + l} : Finset ℕ) ⊆ S := by
      intro x hx
      simp only [Finset.mem_insert, Finset.mem_singleton] at hx
      rcases hx with rfl | rfl | rfl | rfl <;> assumption
    have hcard := Finset.card_le_card hsub
    rw [Finset.card_insert_of_notMem (by simp only [Finset.mem_insert, Finset.mem_singleton]; omega),
      Finset.card_insert_of_notMem (by simp only [Finset.mem_insert, Finset.mem_singleton]; omega),
      Finset.card_insert_of_notMem (by simp only [Finset.mem_singleton]; omega), Finset.card_singleton] at hcard
    omega

end Cert.KernelIdeal.Top4

end
-- ==== Proof.Scan.lean ====
/-
  THE SCAN AND THE ROUNDS OVER THE REALS. Read at one row and lane over the extended reals, meeting a tile is `Kept.succ`; after
  the 157 tiles every lane holds its four smallest, and the four rounds write the four least places of the whole row.
-/
module

public import proofs.«01_k».proof.Proof.Chain
public import proofs.«01_k».proof.Proof.Table
public import Idealize.ShloMosaic.Lib.Pointwise

@[expose] public section

set_option maxRecDepth 16384

noncomputable section

namespace Cert.KernelIdeal.Top4

open Idealize.ShloMosaic Idealize.ShloMosaic.Tactic Idealize.SL.Sem Cert.KernelIdeal.Gen

/-! ## The printed constants -/

/-- The pattern of 2.0. -/
theorem bits_two : Ideal.ofBits .f32 0x40000000#32 = ((2 : ℝ) : EReal) := by
  simp [Ideal.ofBits, Ideal.ieee, -EReal.coe_mul]; norm_num

/-- The pattern of 128.0. -/
theorem bits_128 : Ideal.ofBits .f32 0x43000000#32 = ((128 : ℝ) : EReal) := by
  simp [Ideal.ofBits, Ideal.ieee, -EReal.coe_mul]; norm_num

/-- The pattern of 1e9. -/
theorem bits_big : Ideal.ofBits .f32 0x4E6E6B28#32 = ((1000000000 : ℝ) : EReal) := by
  simp [Ideal.ofBits, Ideal.ieee, -EReal.coe_mul]; norm_num

/-- The pattern of infinity. -/
theorem bits_inf : Ideal.ofBits .f32 0x7F800000#32 = (⊤ : EReal) := by
  simp [Ideal.ofBits, Ideal.ieee]

/-- The patterns of the whole numbers 128 to 156. -/
theorem bits_tail (j : Fin 29) :
    Ideal.ofBits .f32 (BitVec.ofNat 32 (0x43000000 + 0x10000 * j.val)) = (((128 + j.val : ℕ) : ℝ) : EReal) := by
  fin_cases j <;> simp [Ideal.ofBits, Ideal.ieee, -EReal.coe_mul] <;> norm_num

/-- A natural number below 2³¹, taken to an integer word. -/
theorem fptosi_nat (n : ℕ) (hn : n < 2 ^ 31) : Ideal.fptosi 32 (((n : ℕ) : ℝ) : EReal) = BitVec.ofNat 32 n := by
  have h0 : (0 : ℝ) ≤ ((n : ℕ) : ℝ) := Nat.cast_nonneg n
  rw [Ideal.fptosi, Ideal.toIntClamped_coe, if_pos h0, Int.floor_natCast]
  have : max (-((2 ^ (32 - 1) : ℕ) : ℤ)) (min (((2 ^ (32 - 1) : ℕ) : ℤ) - 1) (n : ℤ)) = (n : ℤ) := by
    norm_num
    omega
  rw [this]
  exact BitVec.ofInt_natCast 32 n

/-! ## The scan -/

/-- In every row and lane the carried value holds the four smallest of the first `T` tiles' costs, `C g (t * 128 + l)` being
    the cost of tile `t` in row `g` and lane `l`. -/
def Holds (s : St Ideal) (C : Fin 32 → ℕ → EReal) (T : ℕ) : Prop :=
  ∀ (g : Fin 32) (l : Fin 128), ∃ n1 n2 n3 n4 : ℕ,
    Kept (fun t => C g (t * 128 + l.val)) T (s.1 (ix2 g l)) (s.2.1 (ix2 g l)) (s.2.2.1 (ix2 g l)) (s.2.2.2.1 (ix2 g l)) n1 n2 n3 n4
      ∧ s.2.2.2.2.1 (ix2 g l) = ((n1 : ℝ) : EReal) ∧ s.2.2.2.2.2.1 (ix2 g l) = ((n2 : ℝ) : EReal)
      ∧ s.2.2.2.2.2.2.1 (ix2 g l) = ((n3 : ℝ) : EReal) ∧ s.2.2.2.2.2.2.2 (ix2 g l) = ((n4 : ℝ) : EReal)

/-- The loops' start holds nothing. -/
theorem holds_zero (C : Fin 32 → ℕ → EReal) : Holds st0 C 0 := by
  intro g l
  refine ⟨0, 0, 0, 0, ?_, ?_, ?_, ?_, ?_⟩
  · pointwise [st0]
    rw [bits_inf]
    exact Kept.zero _
  all_goals pointwise [st0]; simp

/-- Meeting tile `T`. -/
theorem Holds.step {s : St Ideal} {C : Fin 32 → ℕ → EReal} (hC : ∀ g q, C g q ≠ ⊤) {T : ℕ} (h : Holds s C T)
    (c : FVec Ideal S32x128 .f32) (tf : Ideal .f32) (hc : ∀ (g : Fin 32) (l : Fin 128), c (ix2 g l) = C g (T * 128 + l.val))
    (ht : tf = ((T : ℝ) : EReal)) : Holds (Top4.step c tf s) C (T + 1) := by
  intro g l
  obtain ⟨n1, n2, n3, n4, hk, h1, h2, h3, h4⟩ := h g l
  have hk' := hk.succ (fun t => hC g _)
  refine ⟨if C g (T * 128 + l.val) < s.1 (ix2 g l) then T else n1,
    if C g (T * 128 + l.val) < s.2.1 (ix2 g l) then (if C g (T * 128 + l.val) < s.1 (ix2 g l) then n1 else T) else n2,
    if C g (T * 128 + l.val) < s.2.2.1 (ix2 g l) then (if C g (T * 128 + l.val) < s.2.1 (ix2 g l) then n2 else T) else n3,
    if C g (T * 128 + l.val) < s.2.2.2.1 (ix2 g l) then (if C g (T * 128 + l.val) < s.2.2.1 (ix2 g l) then n3 else T) else n4,
    ?_, ?_, ?_, ?_, ?_⟩
  · pointwise [Top4.step]
    simp only [hc]
    exact hk'
  · pointwise [Top4.step]
    simp only [hc, h1, ht]
    split <;> rfl
  · pointwise [Top4.step]
    simp only [hc, h1, h2, ht]
    split <;> (try split) <;> rfl
  · pointwise [Top4.step]
    simp only [hc, h2, h3, ht]
    split <;> (try split) <;> rfl
  · pointwise [Top4.step]
    simp only [hc, h3, h4, ht]
    split <;> (try split) <;> rfl

/-- Meeting `n` tiles from tile `T` on. -/
theorem Holds.tiles {s : St Ideal} {C : Fin 32 → ℕ → EReal} (hC : ∀ g q, C g q ≠ ⊤) {T N : ℕ}
    (f : Fin N → FVec Ideal S32x128 .f32 × Ideal .f32)
    (hc : ∀ (j : Fin N) (g : Fin 32) (l : Fin 128), (f j).1 (ix2 g l) = C g ((T + j.val) * 128 + l.val))
    (ht : ∀ j : Fin N, (f j).2 = (((T + j.val : ℕ) : ℝ) : EReal)) (h : Holds s C T) :
    ∀ (n : ℕ) (hn : n ≤ N), Holds (tilesFrom f n hn s) C (T + n)
  | 0, _ => h
  | n + 1, hn => (Holds.tiles hC f hc ht h n (Nat.le_of_succ_le hn)).step hC _ _ (hc ⟨n, hn⟩) (ht ⟨n, hn⟩)

end Cert.KernelIdeal.Top4

end
-- ==== Proof.Tiles.lean ====
/-
  THE TILES. At the extended reals, a tile's cost at (row, lane) is the L1 distance of the box of that tile and lane from the
  row's target, both as (middle, middle, width, height); the scan of a staged block meets boxes 0 to 20095 in order.
-/
module

public import proofs.«01_k».proof.Proof.Scan

@[expose] public section

set_option maxRecDepth 16384

noncomputable section

namespace Cert.KernelIdeal.Top4

open Idealize.ShloMosaic Idealize.ShloMosaic.Tactic Idealize.SL.Sem Cert.KernelIdeal.Gen

/-- The middle of two words. -/
def mid (x y : EReal) : EReal := Ideal.div (x + y) ((2 : ℝ) : EReal)

/-- The distance of two words. -/
def dist (x y : EReal) : EReal := max (x - y) (-(x - y))

/-- The L1 distance of two boxes, as (middle, middle, width, height). -/
def l1 (b t : Fin 4 → EReal) : EReal :=
  dist (mid (b 0) (b 2)) (mid (t 0) (t 2)) + dist (mid (b 1) (b 3)) (mid (t 1) (t 3)) + dist (b 2 - b 0) (t 2 - t 0)
    + dist (b 3 - b 1) (t 3 - t 1)

/-- The targets' words are those of the rows `tr`. -/
def WordsOf (w : FVec Ideal S32x1 .f32 × FVec Ideal S32x1 .f32 × FVec Ideal S32x1 .f32 × FVec Ideal S32x1 .f32)
    (tr : Fin 32 → Fin 4 → EReal) : Prop :=
  ∀ g : Fin 32, w.1 (ix2 g 0) = mid (tr g 0) (tr g 2) ∧ w.2.1 (ix2 g 0) = mid (tr g 1) (tr g 3)
    ∧ w.2.2.1 (ix2 g 0) = tr g 2 - tr g 0 ∧ w.2.2.2 (ix2 g 0) = tr g 3 - tr g 1

/-- The words of the first 32 target rows. -/
theorem words_low (x : FVec Ideal S1x64x4 .f32) :
    WordsOf (words (lowRows x)) (fun g a => x (ix3 0 ⟨g.val, by omega⟩ a)) := by
  intro g
  refine ⟨?_, ?_, ?_, ?_⟩
  · pointwise [words, tmid, tcol, lowRows]
    rw [bits_two]; rfl
  · pointwise [words, tmid, tcol, lowRows]
    rw [bits_two]; rfl
  · pointwise [words, tmid, tcol, lowRows]
    try rfl
  · pointwise [words, tmid, tcol, lowRows]
    try rfl

/-- The words of the last 32 target rows. -/
theorem words_high (x : FVec Ideal S1x64x4 .f32) :
    WordsOf (words (highRows x)) (fun g a => x (ix3 0 ⟨32 + g.val, by omega⟩ a)) := by
  intro g
  refine ⟨?_, ?_, ?_, ?_⟩
  · pointwise [words, tmid, tcol, highRows]
    rw [bits_two]; rfl
  · pointwise [words, tmid, tcol, highRows]
    rw [bits_two]; rfl
  · pointwise [words, tmid, tcol, highRows]
    try rfl
  · pointwise [words, tmid, tcol, highRows]
    try rfl

/-- A tile's cost is the L1 distance. -/
theorem cost_apply {w : FVec Ideal S32x1 .f32 × FVec Ideal S32x1 .f32 × FVec Ideal S32x1 .f32 × FVec Ideal S32x1 .f32}
    {tr : Fin 32 → Fin 4 → EReal} (hw : WordsOf w tr) (sl : FVec Ideal S1x1x4x128 .f32) (g : Fin 32) (l : Fin 128) :
    cost w sl (ix2 g l) = l1 (fun a => sl (ix4 0 0 a l)) (tr g) := by
  obtain ⟨h1, h2, h3, h4⟩ := hw g
  pointwise [cost, gap, bmid, brow]
  rw [bits_two, h1, h2, h3, h4]
  rfl

/-- A tile loaded at offset `t` of the staged block holds the block's tile `t`. -/
theorem slab_apply (arg : Memref sig .tc .vmem S1x157x4x128 .f32) (harg : arg.IsWhole) (x : FVec Ideal S1x157x4x128 .f32)
    (off : Fin 4 → Nat) (h : ∀ a, off a + S1x1x4x128.size a ≤ S1x157x4x128.size a) (t : Fin 157) (ho : off = ![0, t.val, 0, 0])
    (a : Fin 4) (l : Fin 128) : slab (F := Ideal) arg (harg.unread x) off h (ix4 0 0 a l) = x (ix4 0 t a l) := by
  subst ho
  unfold slab
  rw [View.readAt_eq_ld, Memref.IsWhole.read_unread]
  pointwise []
  try rfl

/-- Box `q` of a staged block. -/
def boxAt (x : FVec Ideal S1x157x4x128 .f32) (q : ℕ) (a : Fin 4) : EReal :=
  x (ix4 0 ⟨q / 128 % 157, Nat.mod_lt _ (by norm_num)⟩ a ⟨q % 128, Nat.mod_lt _ (by norm_num)⟩)

theorem boxAt_tile (x : FVec Ideal S1x157x4x128 .f32) (t : Fin 157) (l : Fin 128) (a : Fin 4) :
    boxAt x (t.val * 128 + l.val) a = x (ix4 0 t a l) := by
  have h1 : (t.val * 128 + l.val) / 128 % 157 = t.val := by omega
  have h2 : (t.val * 128 + l.val) % 128 = l.val := by omega
  simp only [boxAt, h1, h2]

/-- Where a trip's tile begins. -/
theorem trip_off : ∀ (k : Fin k0_t1_loop.trips) (j : Fin 32) (a : Fin 4),
    k0_off1 k (BitVec.ofNat 32 j.val) a = (![0, 32 * k.val + j.val, 0, 0] : Fin 4 → Nat) a := by
  decide +kernel

/-- A trip's tile numbers. -/
theorem trip_no : ∀ (k : Fin k0_t1_loop.trips) (j : Fin 32),
    (Scalar.addi (Scalar.muli (Scf.iv 0#32 1#32 k) 32#32) (BitVec.ofNat 32 j.val)).toInt = ((32 * k.val + j.val : ℕ) : ℤ) := by
  decide +kernel

section
variable {w : FVec Ideal S32x1 .f32 × FVec Ideal S32x1 .f32 × FVec Ideal S32x1 .f32 × FVec Ideal S32x1 .f32}
    {tr : Fin 32 → Fin 4 → EReal} (hw : WordsOf w tr) (arg : Memref sig .tc .vmem S1x157x4x128 .f32) (harg : arg.IsWhole)
    (x : FVec Ideal S1x157x4x128 .f32) (hC : ∀ g q, l1 (boxAt x q) (tr g) ≠ ⊤)

include hw hC

/-- A trip of the loop, met after the tiles before it. -/
theorem holds_trip (k : Fin k0_t1_loop.trips) (T T' : ℕ) (hT : T = 32 * k.val) (hT' : T' = T + 32) (s : St Ideal)
    (h : Holds s (fun g q => l1 (boxAt x q) (tr g)) T) :
    Holds (tilesFrom (tripTile w arg (harg.unread x) k) 32 (Nat.le_refl _) s) (fun g q => l1 (boxAt x q) (tr g)) T' := by
  subst hT' hT
  have hk : k.val < 4 := k.isLt
  refine Holds.tiles hC _ (fun j g l => ?_) (fun j => ?_) h 32 (Nat.le_refl _)
  · have hj := j.isLt
    show cost w _ (ix2 g l) = _
    rw [cost_apply hw]
    congr 1
    funext a
    rw [slab_apply arg harg x _ _ ⟨32 * k.val + j.val, by omega⟩ (funext (trip_off k j))]
    exact (boxAt_tile x ⟨32 * k.val + j.val, by omega⟩ l a).symm
  · show ((((Scalar.addi (Scalar.muli (Scf.iv 0#32 1#32 k) 32#32) (BitVec.ofNat 32 j.val)).toInt : ℤ) : ℝ) : EReal) = _
    rw [trip_no]
    push_cast
    rfl

/-- The tiles after the loop. -/
theorem holds_tail (s : St Ideal) (h : Holds s (fun g q => l1 (boxAt x q) (tr g)) 128) :
    Holds (tilesFrom (tailTile w arg (harg.unread x)) 29 (Nat.le_refl _) s) (fun g q => l1 (boxAt x q) (tr g)) 157 := by
  refine Holds.tiles hC _ (fun j g l => ?_) (fun j => ?_) h 29 (Nat.le_refl _)
  · have hj := j.isLt
    show cost w _ (ix2 g l) = _
    rw [cost_apply hw]
    congr 1
    funext a
    rw [slab_apply arg harg x _ _ ⟨128 + j.val, by omega⟩ rfl]
    exact (boxAt_tile x ⟨128 + j.val, by omega⟩ l a).symm
  · exact bits_tail j

/-- After the scan every lane holds the four smallest costs of its 157 boxes. -/
theorem scanned_holds : Holds (scanned w arg (harg.unread x)) (fun g q => l1 (boxAt x q) (tr g)) 157 :=
  holds_tail hw arg harg x hC _
    (holds_trip hw arg harg x hC _ 96 128 rfl rfl _
      (holds_trip hw arg harg x hC _ 64 96 rfl rfl _
        (holds_trip hw arg harg x hC _ 32 64 rfl rfl _
          (holds_trip hw arg harg x hC _ 0 32 rfl rfl _ (holds_zero _)))))

end

end Cert.KernelIdeal.Top4

end
-- ==== Proof.Rounds.lean ====
/-
  THE FOUR ROUNDS. From a carried value holding every lane's four smallest costs, the four rounds write, row by row, the four
  least places of the row, in order.
-/
module

public import proofs.«01_k».proof.Proof.Scan

@[expose] public section

set_option maxRecDepth 16384

noncomputable section

namespace Cert.KernelIdeal.Top4

open Idealize.ShloMosaic Idealize.ShloMosaic.Tactic Idealize.SL.Sem Cert.KernelIdeal.Gen

/-- There are four picks. -/
theorem exists_picks (C : ℕ → EReal) (N r : ℕ) (hr : r ≤ N) : ∃ σ, Picks C N σ r :=
  ⟨_, sorted_picks N C (fun a b => decide (C a.val < C b.val)) (fun _ _ => rfl) r hr⟩

/-- A round's pick in a row, over the row's 512 entries. -/
theorem pick_apply (v q : FVec Ideal S32x512 .f32) (g : Fin 32) :
    pick v q (ix2 g 0) = Finset.univ.inf fun i : Fin 512 =>
      if v (ix2 g i) = Finset.univ.inf (fun k : Fin 512 => v (ix2 g k)) then q (ix2 g i) else ((1000000000 : ℝ) : EReal) := by
  pointwise [pick, rowMin]
  rw [bits_inf, bits_big]
  rfl

/-- What is left of a row after a round's pick is taken out. -/
theorem strike_apply (v q : FVec Ideal S32x512 .f32) (g : Fin 32) (i : Fin 512) :
    strike v q (ix2 g i) = if q (ix2 g i) = pick v q (ix2 g 0) then ⊤ else v (ix2 g i) := by
  unfold strike
  generalize pick v q = p
  pointwise []
  rw [bits_inf]

/-- What a round stores in a row. -/
theorem picked_apply (s : St Ideal) (r : ℕ) (g : Fin 32) :
    picked (F := Ideal) s r (ix3 0 g 0) = Ideal.fptosi 32 (pick (left (candV s) (candQ s) r) (candQ s) (ix2 g 0)) := by
  unfold picked
  generalize pick (left (candV s) (candQ s) r) (candQ s) = p
  pointwise []
  rfl

/-- Rounds over a table: round `r` picks `σ r`. -/
theorem rounds_pick {C : ℕ → EReal} {N : ℕ} {v q : FVec Ideal S32x512 .f32} {g : Fin 32} {P : Fin 512 → ℕ}
    (hN : (N : ℝ) ≤ 1000000000) (hC : ∀ s, C s ≠ ⊤) (hq : ∀ i, q (ix2 g i) = ((P i : ℝ) : EReal))
    (hv : ∀ i, v (ix2 g i) = ⊤ ∨ (P i < N ∧ v (ix2 g i) = C (P i))) (σ : ℕ → ℕ) (hσ : Picks C N σ 4)
    (hin : ∀ (S : Finset ℕ) (p : ℕ), S.card ≤ 3 → Least C N S p → ∃ i, P i = p ∧ v (ix2 g i) = C p) :
    ∀ r, r < 4 → (∀ i, left v q r (ix2 g i) = leftOf (fun i => v (ix2 g i)) P ((Finset.range r).image σ) i)
      ∧ pick (left v q r) q (ix2 g 0) = ((σ r : ℝ) : EReal) := by
  intro r
  have hpick : ∀ r, r < 4 → (∀ i, left v q r (ix2 g i) = leftOf (fun i => v (ix2 g i)) P ((Finset.range r).image σ) i) →
      pick (left v q r) q (ix2 g 0) = ((σ r : ℝ) : EReal) := by
    intro r hr hl
    rw [pick_apply]
    simp only [hl]
    have hcard : ((Finset.range r).image σ).card ≤ 3 := by
      have := (Finset.card_image_le (s := Finset.range r) (f := σ))
      rw [Finset.card_range] at this
      omega
    exact round_picks hN hC hq hv _ (σ r) (hσ r hr) (hin _ _ hcard (hσ r hr))
  induction r with
  | zero =>
    intro hr
    have h0 : ∀ i, left v q 0 (ix2 g i) = leftOf (fun i => v (ix2 g i)) P ((Finset.range 0).image σ) i := by
      intro i; simp [left, leftOf]
    exact ⟨h0, hpick 0 hr h0⟩
  | succ r ih =>
    intro hr
    obtain ⟨hl, hp⟩ := ih (by omega)
    have h1 : ∀ i, left v q (r + 1) (ix2 g i) = leftOf (fun i => v (ix2 g i)) P ((Finset.range (r + 1)).image σ) i := by
      intro i
      rw [left, strike_apply, hp, hl, Finset.range_add_one, Finset.image_insert]
      exact leftOf_insert hq _ _ i
    exact ⟨h1, hpick _ hr h1⟩

/-- The place of entry `i` of a row: slot `i / 128` of lane `i % 128`. -/
def entryPlace (n1 n2 n3 n4 : Fin 128 → ℕ) (i : Fin 512) : ℕ :=
  if h : i.val < 128 then n1 ⟨i.val, h⟩ * 128 + i.val
  else if h : i.val - 128 < 128 then n2 ⟨i.val - 128, h⟩ * 128 + (i.val - 128)
  else if h : i.val - 128 - 128 < 128 then n3 ⟨i.val - 128 - 128, h⟩ * 128 + (i.val - 128 - 128)
  else n4 ⟨i.val - 128 - 128 - 128, by omega⟩ * 128 + (i.val - 128 - 128 - 128)

/-- A tile's number times 128 plus the lane, over the reals. -/
theorem place_real (n l : ℕ) (hl : l < 128) : ((n : ℝ) : EReal) * ((128 : ℝ) : EReal) + FloatOps.sitofp (F := Ideal) .f32 (BitVec.ofNat 32 l)
    = (((n * 128 + l : ℕ) : ℝ) : EReal) := by
  show ((n : ℝ) : EReal) * ((128 : ℝ) : EReal) + (((BitVec.ofNat 32 l).toInt : ℝ) : EReal) = _
  have : (BitVec.ofNat 32 l).toInt = (l : ℤ) := by
    rw [BitVec.toInt_eq_toNat_of_lt] <;> simp only [BitVec.toNat_ofNat] <;> omega
  rw [this, ← EReal.coe_mul, ← EReal.coe_add]
  push_cast
  rfl

/-- The place written at entry `i` of a row, as the kernel computes it. -/
theorem candQ_apply (s : St Ideal) (g : Fin 32) (i : Fin 512) :
    candQ s (ix2 g i) =
      if h : i.val < 128 then s.2.2.2.2.1 (ix2 g ⟨i.val, h⟩) * ((128 : ℝ) : EReal) + FloatOps.sitofp (F := Ideal) .f32 (BitVec.ofNat 32 i.val)
      else if h : i.val - 128 < 128 then
        s.2.2.2.2.2.1 (ix2 g ⟨i.val - 128, h⟩) * ((128 : ℝ) : EReal) + FloatOps.sitofp (F := Ideal) .f32 (BitVec.ofNat 32 (i.val - 128))
      else if h : i.val - 128 - 128 < 128 then
        s.2.2.2.2.2.2.1 (ix2 g ⟨i.val - 128 - 128, h⟩) * ((128 : ℝ) : EReal)
          + FloatOps.sitofp (F := Ideal) .f32 (BitVec.ofNat 32 (i.val - 128 - 128))
      else s.2.2.2.2.2.2.2 (ix2 g ⟨i.val - 128 - 128 - 128, by omega⟩) * ((128 : ℝ) : EReal)
          + FloatOps.sitofp (F := Ideal) .f32 (BitVec.ofNat 32 (i.val - 128 - 128 - 128)) := by
  rw [← bits_128]
  pointwise [candQ, four, boxNo, lanes]

/-- The cost at entry `i` of a row. -/
theorem candV_apply (s : St Ideal) (g : Fin 32) (i : Fin 512) :
    candV s (ix2 g i) =
      if h : i.val < 128 then s.1 (ix2 g ⟨i.val, h⟩)
      else if h : i.val - 128 < 128 then s.2.1 (ix2 g ⟨i.val - 128, h⟩)
      else if h : i.val - 128 - 128 < 128 then s.2.2.1 (ix2 g ⟨i.val - 128 - 128, h⟩)
      else s.2.2.2.1 (ix2 g ⟨i.val - 128 - 128 - 128, by omega⟩) := by
  pointwise [candV, four]

/-- What the four rounds write in row `g`: the row's four least places. -/
theorem picks_of_holds {s : St Ideal} {C : Fin 32 → ℕ → EReal} (hC : ∀ g q, C g q ≠ ⊤) (h : Holds s C 157) (g : Fin 32) :
    ∃ σ, Picks (C g) (157 * 128) σ 4 ∧ ∀ r, r < 4 → picked (F := Ideal) s r (ix3 0 g 0) = BitVec.ofNat 32 (σ r) := by
  obtain ⟨σ, hσ⟩ := exists_picks (C g) (157 * 128) 4 (by norm_num)
  refine ⟨σ, hσ, fun r hr => ?_⟩
  choose n1 n2 n3 n4 hk a1 a2 a3 a4 using h g
  have hq : ∀ i, candQ s (ix2 g i) = ((entryPlace n1 n2 n3 n4 i : ℝ) : EReal) := by
    intro i
    have hi := i.isLt
    rw [candQ_apply]
    unfold entryPlace
    simp only [a1, a2, a3, a4]
    split
    · exact place_real _ _ (by omega)
    split
    · exact place_real _ _ (by omega)
    split
    · exact place_real _ _ (by omega)
    · exact place_real _ _ (by omega)
  have hv : ∀ i, candV s (ix2 g i) = ⊤ ∨ (entryPlace n1 n2 n3 n4 i < 157 * 128 ∧ candV s (ix2 g i) = C g (entryPlace n1 n2 n3 n4 i)) := by
    intro i
    have hi := i.isLt
    rw [candV_apply]
    unfold entryPlace
    split
    · exact (hk _).v1.imp id fun h => ⟨by omega, h.2⟩
    split
    · exact (hk _).v2.imp id fun h => ⟨by omega, h.2⟩
    split
    · exact (hk _).v3.imp id fun h => ⟨by omega, h.2⟩
    · exact (hk _).v4.imp id fun h => ⟨by omega, h.2⟩
  have hin : ∀ (S : Finset ℕ) (p : ℕ), S.card ≤ 3 → Least (C g) (157 * 128) S p →
      ∃ i, entryPlace n1 n2 n3 n4 i = p ∧ candV s (ix2 g i) = C g p := by
    intro S p hS hp
    have hl : p % 128 < 128 := Nat.mod_lt _ (by norm_num)
    rcases (hk ⟨p % 128, hl⟩).has_least (hC g) hl hS hp rfl with ⟨h1, h2⟩ | ⟨h1, h2⟩ | ⟨h1, h2⟩ | ⟨h1, h2⟩
    · refine ⟨⟨p % 128, by omega⟩, ?_, ?_⟩
      · simpa only [entryPlace, hl, dif_pos] using h1
      · rw [candV_apply]
        simpa only [hl, dif_pos] using h2
    · have e0 : ¬ (128 + p % 128 < 128) := by omega
      have e1 : 128 + p % 128 - 128 = p % 128 := by omega
      refine ⟨⟨128 + p % 128, by omega⟩, ?_, ?_⟩
      · simpa only [entryPlace, e0, e1, hl, dif_pos, dif_neg, not_false_eq_true] using h1
      · rw [candV_apply]
        simpa only [e0, e1, hl, dif_pos, dif_neg, not_false_eq_true] using h2
    · have e0 : ¬ (256 + p % 128 < 128) := by omega
      have e1 : ¬ (256 + p % 128 - 128 < 128) := by omega
      have e2 : 256 + p % 128 - 128 - 128 = p % 128 := by omega
      refine ⟨⟨256 + p % 128, by omega⟩, ?_, ?_⟩
      · simpa only [entryPlace, e0, e1, e2, hl, dif_pos, dif_neg, not_false_eq_true] using h1
      · rw [candV_apply]
        simpa only [e0, e1, e2, hl, dif_pos, dif_neg, not_false_eq_true] using h2
    · have e0 : ¬ (384 + p % 128 < 128) := by omega
      have e1 : ¬ (384 + p % 128 - 128 < 128) := by omega
      have e2 : ¬ (384 + p % 128 - 128 - 128 < 128) := by omega
      have e3 : 384 + p % 128 - 128 - 128 - 128 = p % 128 := by omega
      refine ⟨⟨384 + p % 128, by omega⟩, ?_, ?_⟩
      · simpa only [entryPlace, e0, e1, e2, e3, dif_neg, not_false_eq_true] using h1
      · rw [candV_apply]
        simpa only [e0, e1, e2, e3, dif_neg, not_false_eq_true] using h2
  rw [picked_apply, (rounds_pick (by norm_num) (hC g) hq hv σ hσ hin r hr).2]
  have := (hσ r hr).1
  exact fptosi_nat _ (by omega)

end Cert.KernelIdeal.Top4

end
-- ==== Proof.Block.lean ====
/-
  ONE OUTPUT BLOCK. What a grid step leaves in its block: in row `r`, columns 0 to 3, the numbers of the four boxes of the first
  array nearest to target `r`, in order; in columns 4 to 7 those of the second array.
-/
module

public import proofs.«01_k».proof.Proof.Pieces
public import proofs.«01_k».proof.Proof.Tiles
public import proofs.«01_k».proof.Proof.Rounds

@[expose] public section

set_option maxRecDepth 16384

noncomputable section

namespace Cert.KernelIdeal.Top4

open Idealize.ShloMosaic Idealize.ShloMosaic.Tactic Idealize.SL.Sem Cert.KernelIdeal.Gen

/-- A store's payload agrees with a function of the block's index when it does row by row. -/
theorem piece_agree (g q r : Nat) (hg : g + 32 ≤ 64) (hq : q + r + 1 ≤ 8) (s : St Ideal) (G : S1x64x8.Idx → BitVec 32)
    (hG : ∀ k : Fin 32, picked s r (ix3 0 k 0) = G (ix3 0 ⟨g + k.val, by omega⟩ ⟨q + r, by omega⟩)) :
    ∀ x, (piece (F := Ideal) g q r hg hq s).2 x = G ((piece (F := Ideal) g q r hg hq s).1.emb x) := by
  intro (x : S1x32x1.Idx)
  have h0 : x 0 = (0 : Fin 1) := Subsingleton.elim (α := Fin 1) _ _
  have h2 : x 2 = (0 : Fin 1) := Subsingleton.elim (α := Fin 1) _ _
  have hx : x = ix3 0 (x 1) 0 := by
    funext a
    fin_cases a
    · exact h0
    · rfl
    · exact h2
  show picked s r x = _
  rw [hx]
  refine (hG (x 1)).trans (congrArg G ?_)
  funext a
  apply Fin.ext
  fin_cases a
  · show 0 = 0 + 1 * 0
    rfl
  · show g + (x 1).val = g + 1 * (x 1).val
    omega
  · show q + r = q + r + 1 * 0
    omega

/-- The block's entry at an index, from the four scans' carried values: first or second box array, low or high rows. -/
def blockFn (s1l s1h s2l s2h : St Ideal) (y : S1x64x8.Idx) : BitVec 32 :=
  picked (F := Ideal) (if (y 2).val < 4 then (if (y 1).val < 32 then s1l else s1h) else (if (y 1).val < 32 then s2l else s2h))
    ((y 2).val % 4) (ix3 0 ⟨(y 1).val % 32, Nat.mod_lt _ (by norm_num)⟩ 0)

/-- A store of four rounds agrees with the block's function. -/
theorem quad_agree (g q : Nat) (hg : g + 32 ≤ 64) (hq : q + 4 ≤ 8) (s : St Ideal) (s1l s1h s2l s2h : St Ideal)
    (hg' : g % 32 = 0) (hq' : q % 4 = 0)
    (hs : (if q < 4 then (if g < 32 then s1l else s1h) else (if g < 32 then s2l else s2h)) = s) :
    ∀ p ∈ quad (F := Ideal) g q hg hq s, ∀ x : p.1.shape.Idx, p.2 x = blockFn s1l s1h s2l s2h (p.1.emb x) := by
  have key : ∀ (r : Nat) (hr : r < 4), ∀ (h : q + r + 1 ≤ 8) (x : S1x32x1.Idx), (piece (F := Ideal) g q r hg h s).2 x
      = blockFn s1l s1h s2l s2h ((piece (F := Ideal) g q r hg h s).1.emb x) := by
    intro r hr h
    refine piece_agree g q r hg h s _ fun k => ?_
    have hk := k.isLt
    have e1 : (q + r) % 4 = r := by omega
    have e2 : (g + k.val) % 32 = k.val := by omega
    have e3 : (q + r < 4) = (q < 4) := by apply propext; omega
    have e4 : (g + k.val < 32) = (g < 32) := by apply propext; omega
    show _ = picked (F := Ideal) (if q + r < 4 then (if g + k.val < 32 then s1l else s1h) else (if g + k.val < 32 then s2l else s2h))
      ((q + r) % 4) (ix3 0 ⟨(g + k.val) % 32, _⟩ 0)
    simp only [e1, e2, e3, e4, hs]
  intro p hp
  simp only [quad, List.mem_cons, List.not_mem_nil, or_false] at hp
  rcases hp with rfl | rfl | rfl | rfl
  · exact key 3 (by norm_num) _
  · exact key 2 (by norm_num) _
  · exact key 1 (by norm_num) _
  · exact key 0 (by norm_num) _

section
variable (c : Dev nD) (i : grid0.Coords)
    (arg1 : Memref sig .tc .vmem S1x157x4x128 .f32) (harg1 : arg1.IsWhole)
    (arg2 : Memref sig .tc .vmem S1x157x4x128 .f32) (harg2 : arg2.IsWhole)
    (arg3 : Memref sig .tc .vmem S1x64x4 .f32) (harg3 : arg3.IsWhole)
    (arg4 : Memref sig .tc .vmem S1x64x8 .i32) (harg4 : arg4.IsWhole)
    (x0 : FVec Ideal S1x157x4x128 .f32) (x1 : FVec Ideal S1x157x4x128 .f32) (x2 : FVec Ideal S1x64x4 .f32)

/-- The block's entries are the rounds' picks. -/
theorem out_apply (y : S1x64x8.Idx) :
    out0_A_3 (F := Ideal) c i arg1 harg1 arg2 harg2 arg3 harg3 arg4 harg4 x0 x1 x2 y
      = blockFn (scanned (words (lowRows x2)) arg1 (harg1.unread x0)) (scanned (words (highRows x2)) arg1 (harg1.unread x0))
          (scanned (words (lowRows x2)) arg2 (harg2.unread x1)) (scanned (words (highRows x2)) arg2 (harg2.unread x1)) y := by
  have ht : tgtBlock (F := Ideal) arg3 harg3 x2 = x2 := by
    unfold tgtBlock
    rw [View.readAt_eq_ld, Memref.IsWhole.read_unread]
    have hz : (![0, 0, 0] : Fin 3 → Nat) = fun _ => 0 := by decide
    exact View.ld_unit_zero (Val := Elt Ideal) (e := .f32) (S := S1x64x4) hz inb_S1x64x4_S1x64x4_0_0_0 x2
  have hrun := run_pieces (F := Ideal) c i arg1 harg1 arg2 harg2 arg3 harg3 arg4 harg4 x0 x1 x2
  have hcov := cover0_A_3 (F := Ideal) c i arg1 harg1 arg2 harg2 arg3 harg3 arg4 harg4 x0 x1 x2 y
  have hout : out0_A_3 (F := Ideal) c i arg1 harg1 arg2 harg2 arg3 harg3 arg4 harg4 x0 x1 x2 = _ := View.read_writes_junk_eq_canon _ _
  rw [ht] at hrun
  rw [hrun] at hcov
  rw [hout, hrun]
  clear hout hrun
  refine View.canon_apply_of_pieces _ _ ?_ y hcov
  intro p hp
  simp only [List.mem_append] at hp
  rcases hp with ((hp | hp) | hp) | hp
  · exact quad_agree 32 4 _ _ _ _ _ _ _ rfl rfl rfl p hp
  · exact quad_agree 0 4 _ _ _ _ _ _ _ rfl rfl rfl p hp
  · exact quad_agree 32 0 _ _ _ _ _ _ _ rfl rfl rfl p hp
  · exact quad_agree 0 0 _ _ _ _ _ _ _ rfl rfl rfl p hp

/-- Target `r`'s box. -/
def tgtAt (x2 : FVec Ideal S1x64x4 .f32) (r : Fin 64) (a : Fin 4) : EReal := x2 (ix3 0 r a)

/-- A row of one half: the four rounds pick the four least. -/
theorem half_picks (arg : Memref sig .tc .vmem S1x157x4x128 .f32) (harg : arg.IsWhole) (x : FVec Ideal S1x157x4x128 .f32)
    {w : FVec Ideal S32x1 .f32 × FVec Ideal S32x1 .f32 × FVec Ideal S32x1 .f32 × FVec Ideal S32x1 .f32}
    {tr : Fin 32 → Fin 4 → EReal} (hw : WordsOf w tr) (hC : ∀ g q, l1 (boxAt x q) (tr g) ≠ ⊤) (g : Fin 32) :
    ∃ σ, Picks (fun q => l1 (boxAt x q) (tr g)) (157 * 128) σ 4
      ∧ ∀ j, j < 4 → picked (F := Ideal) (scanned w arg (harg.unread x)) j (ix3 0 g 0) = BitVec.ofNat 32 (σ j) :=
  picks_of_holds hC (scanned_holds hw arg harg x hC) g

/-- Columns 0 to 3 of a row. -/
theorem out_first (hC : ∀ r q, l1 (boxAt x0 q) (tgtAt x2 r) ≠ ⊤) (r : Fin 64) :
    ∃ σ, Picks (fun q => l1 (boxAt x0 q) (tgtAt x2 r)) (157 * 128) σ 4 ∧ ∀ j : Fin 4,
      out0_A_3 (F := Ideal) c i arg1 harg1 arg2 harg2 arg3 harg3 arg4 harg4 x0 x1 x2 (ix3 0 r ⟨j.val, by omega⟩)
        = BitVec.ofNat 32 (σ j.val) := by
  rcases Nat.lt_or_ge r.val 32 with hr | hr
  · obtain ⟨σ, hσ, h⟩ := half_picks arg1 harg1 x0 (words_low x2) (fun g q => hC _ q) ⟨r.val, hr⟩
    refine ⟨σ, hσ, fun j => ?_⟩
    have hj := j.isLt
    rw [out_apply, ← h j.val hj]
    have e1 : r.val % 32 = r.val := by omega
    have e2 : j.val % 4 = j.val := by omega
    show picked (F := Ideal) (if j.val < 4 then (if r.val < 32 then _ else _) else _) (j.val % 4) (ix3 0 ⟨r.val % 32, _⟩ 0) = _
    simp only [e1, e2, hj, hr, if_true]
  · obtain ⟨σ, hσ, h⟩ := half_picks arg1 harg1 x0 (words_high x2) (fun g q => hC _ q) ⟨r.val - 32, by omega⟩
    have e0 : 32 + (r.val - 32) = r.val := by omega
    simp only [e0] at hσ
    refine ⟨σ, hσ, fun j => ?_⟩
    have hj := j.isLt
    rw [out_apply, ← h j.val hj]
    have e1 : r.val % 32 = r.val - 32 := by omega
    have e2 : j.val % 4 = j.val := by omega
    have e3 : ¬ r.val < 32 := by omega
    show picked (F := Ideal) (if j.val < 4 then (if r.val < 32 then _ else _) else _) (j.val % 4) (ix3 0 ⟨r.val % 32, _⟩ 0) = _
    simp only [e1, e2, hj, e3, if_true, if_false]

/-- Columns 4 to 7 of a row. -/
theorem out_second (hC : ∀ r q, l1 (boxAt x1 q) (tgtAt x2 r) ≠ ⊤) (r : Fin 64) :
    ∃ σ, Picks (fun q => l1 (boxAt x1 q) (tgtAt x2 r)) (157 * 128) σ 4 ∧ ∀ j : Fin 4,
      out0_A_3 (F := Ideal) c i arg1 harg1 arg2 harg2 arg3 harg3 arg4 harg4 x0 x1 x2 (ix3 0 r ⟨4 + j.val, by omega⟩)
        = BitVec.ofNat 32 (σ j.val) := by
  rcases Nat.lt_or_ge r.val 32 with hr | hr
  · obtain ⟨σ, hσ, h⟩ := half_picks arg2 harg2 x1 (words_low x2) (fun g q => hC _ q) ⟨r.val, hr⟩
    refine ⟨σ, hσ, fun j => ?_⟩
    have hj := j.isLt
    rw [out_apply, ← h j.val hj]
    have e1 : r.val % 32 = r.val := by omega
    have e2 : (4 + j.val) % 4 = j.val := by omega
    have e4 : ¬ 4 + j.val < 4 := by omega
    show picked (F := Ideal) (if 4 + j.val < 4 then _ else (if r.val < 32 then _ else _)) ((4 + j.val) % 4) (ix3 0 ⟨r.val % 32, _⟩ 0) = _
    simp only [e1, e2, e4, hr, if_true, if_false]
  · obtain ⟨σ, hσ, h⟩ := half_picks arg2 harg2 x1 (words_high x2) (fun g q => hC _ q) ⟨r.val - 32, by omega⟩
    have e0 : 32 + (r.val - 32) = r.val := by omega
    simp only [e0] at hσ
    refine ⟨σ, hσ, fun j => ?_⟩
    have hj := j.isLt
    rw [out_apply, ← h j.val hj]
    have e1 : r.val % 32 = r.val - 32 := by omega
    have e2 : (4 + j.val) % 4 = j.val := by omega
    have e3 : ¬ r.val < 32 := by omega
    have e4 : ¬ 4 + j.val < 4 := by omega
    show picked (F := Ideal) (if 4 + j.val < 4 then _ else (if r.val < 32 then _ else _)) ((4 + j.val) % 4) (ix3 0 ⟨r.val % 32, _⟩ 0) = _
    simp only [e1, e2, e4, e3, if_false]

end

end Cert.KernelIdeal.Top4

end
-- ==== Proof.Array.lean ====
/-
  THE WHOLE ARRAY. The launch's arrays as the region finds them — each box array padded to 157 tiles of 128 boxes and laid out
  tile by tile —, each grid point's blocks of them, and the region's output array, block by block.
-/
module

public import proofs.«01_k».proof.Proof.Block
public import Idealize.ShloMosaic.Lib.Pipeline.Value
public import Idealize.ShloMosaic.Lib.Pipeline.ValueKit

@[expose] public section

set_option maxRecDepth 16384

noncomputable section

namespace Cert.KernelIdeal.Top4

open Idealize.ShloMosaic Idealize.ShloMosaic.TcCoe Idealize.ShloMosaic.Tactic Idealize.SL.Sem Cert.KernelIdeal.Gen
open Idealize.ShloMosaic.Pipeline (Dat)

/-- A box array padded with far boxes and laid out tile by tile, coordinate by coordinate. -/
def tiled (A : FVec Ideal S8x20000x4 .f32) : FVec Ideal S8x157x4x128 .f32 :=
  transpose S8x157x4x128 [0, 1, 3, 2]
    (shapeCast S8x157x128x4
      (pad S8x20096x4 ![0, 0, 0] ![0, 96, 0] ![0, 0, 0] A (constant (F := Ideal) S_ .f32 0x5D5E0B6B#32) pads_S8x20000x4_S8x20096x4_000_0960_000 h_S_)
      shapeCasts_S8x20096x4_S8x157x128x4) transposes_S8x157x128x4_S8x157x4x128_0_1_3_2

/-- Where the tiles' entries come from. -/
theorem tiled_apply (A : FVec Ideal S8x20000x4 .f32) (b : Fin 8) (t : Fin 157) (a : Fin 4) (l : Fin 128) :
    tiled A (ix4 b t a l) = if h : t.val * 128 + l.val < 20000 then A (ix3 b ⟨t.val * 128 + l.val, h⟩ a) else Ideal.ofBits .f32 0x5D5E0B6B#32 := by
  pointwise [tiled]

section
variable (m : (ℓ : Loc nD τ sig) → Buf (Elt Ideal) ℓ) (c : Dev nD)

/-- The first staged array. -/
theorem V_v2 : V m c main_v2 = tiled (m ((c : Thread nD τ).loc main_arg0)) := by
  dsimp only [V, V0, hostOps0, hostOps0_1, hostOps0_2, hostOps0_3, hostOps0_4, List.flatten_cons, List.flatten_nil, List.append_nil, List.cons_append, List.nil_append]
  after_results
  rfl

/-- The second staged array. -/
theorem V_v5 : V m c main_v5 = tiled (m ((c : Thread nD τ).loc main_arg1)) := by
  dsimp only [V, V0, hostOps0, hostOps0_1, hostOps0_2, hostOps0_3, hostOps0_4, List.flatten_cons, List.flatten_nil, List.append_nil, List.cons_append, List.nil_append]
  after_results
  rfl

/-- Grid point `b`. -/
def pt (b : Fin 8) : Fin cfg0.N := ⟨b.val, by have := N_0; show b.val < grid0.N; omega⟩

/-- The batch of a grid point. -/
def ofPt (t : Fin cfg0.N) : Fin 8 := ⟨t.val, by have h := t.isLt; have := N_0; change t.val < grid0.N at h; omega⟩

theorem pt_val (b : Fin 8) : (pt b).val = b.val := rfl
theorem ofPt_pt (b : Fin 8) : ofPt (pt b) = b := rfl
theorem pt_ofPt (t : Fin cfg0.N) : pt (ofPt t) = t := rfl

/-- The windows' block indices at a point. -/
theorem index0 : ∀ t : Fin cfg0.N, win0_0.index t = ![t.val, 0, 0, 0] := (by decide +kernel : ∀ t : Fin grid0.N, _)
theorem index1 : ∀ t : Fin cfg0.N, win0_1.index t = ![t.val, 0, 0, 0] := (by decide +kernel : ∀ t : Fin grid0.N, _)
theorem index2 : ∀ t : Fin cfg0.N, win0_2.index t = ![t.val, 0, 0] := (by decide +kernel : ∀ t : Fin grid0.N, _)
theorem index3 : ∀ t : Fin cfg0.N, win0_3.index t = ![t.val, 0, 0] := (by decide +kernel : ∀ t : Fin grid0.N, _)

/-- Grid point `b`'s block of the first staged array is batch `b`. -/
theorem iblk0 (b : Fin 8) (t : Fin 157) (a : Fin 4) (l : Fin 128) :
    iblk m c 0 (pt b) (ix4 0 t a l) = tiled (m ((c : Thread nD τ).loc main_arg0)) (ix4 b t a l) := by
  rw [← V_v2]
  unfold iblk
  blk_simp
  refine congrArg (V m c main_v2) ?_
  blk_ext [index0, pt_val]

/-- Grid point `b`'s block of the second staged array is batch `b`. -/
theorem iblk1 (b : Fin 8) (t : Fin 157) (a : Fin 4) (l : Fin 128) :
    iblk m c 1 (pt b) (ix4 0 t a l) = tiled (m ((c : Thread nD τ).loc main_arg1)) (ix4 b t a l) := by
  rw [← V_v5]
  unfold iblk
  blk_simp
  refine congrArg (V m c main_v5) ?_
  blk_ext [index1, pt_val]

/-- Grid point `b`'s block of the targets is batch `b`. -/
theorem iblk2 (b : Fin 8) (r : Fin 64) (a : Fin 4) :
    iblk m c 2 (pt b) (ix3 0 r a) = m ((c : Thread nD τ).loc main_arg2) (ix3 b r a) := by
  rw [← V_main_arg2 m c]
  unfold iblk
  blk_simp
  refine congrArg (V m c main_arg2) ?_
  blk_ext [index2, pt_val]

/-- The region's output array: batch `b`'s block is what grid point `b` leaves. -/
def outArr : Buf (Elt Ideal) ((c : Thread nD τ).loc main_v6) := fun i : S8x64x8.Idx => outsAt0 m c (pt (i 0)) (ix3 0 (i 1) (i 2))

theorem outArr_of_val (t : Fin cfg0.N) (y : S1x64x8.Idx) (i : S8x64x8.Idx) (h0 : (i 0).val = t.val) (h1 : (i 1).val = (y 1).val)
    (h2 : (i 2).val = (y 2).val) : outsAt0 m c t y = outArr m c i := by
  have e0 : pt (i 0) = t := Fin.ext h0
  have e : ix3 0 (i 1) (i 2) = y := by
    funext a
    apply Fin.ext
    fin_cases a
    · have : (y 0).val < 1 := (y 0).isLt
      show 0 = (y 0).val
      omega
    · exact h1
    · exact h2
  exact ((congrArg (fun t => outsAt0 m c t (ix3 0 (i 1) (i 2))) e0).trans (congrArg (outsAt0 m c t) e)).symm

/-- The run leaves it. -/
theorem final_o : (dats m 0 c).arrAt 3 cfg0.N = outArr m c := by
  refine (dats m 0 c).arrAt_eq_of_covers 3 _ (by decide +kernel) fun t hf y => ?_
  blk_simp
  rw [after0_3]
  refine outArr_of_val m c t y _ ?_ ?_ ?_
  · have : (y 0).val < 1 := (y 0).isLt
    blk_simp [index3]
  · blk_simp [index3]
  · blk_simp [index3]

end

end Cert.KernelIdeal.Top4

end
-- ==== Proof.Costs.lean ====
/-
  COSTS OF SMALL BOXES. Boxes whose coordinates are real numbers of at most 9.99999984e16 in absolute value have real costs of at
  most twelve times that; a box of the padding costs at least eighteen times it. So the padding never comes before a box.
-/
module

public import proofs.«01_k».proof.Proof.Tiles
public import proofs.«01_k».proof.Proof.Least

@[expose] public section

noncomputable section

namespace Cert.KernelIdeal.Top4

open Idealize.ShloMosaic

/-- The bound on the coordinates. -/
def bound : ℝ := 99999998430674944
/-- The padding's coordinate. -/
def far : ℝ := 999999984306749440

theorem bits_bound : Ideal.ofBits .f32 0x5BB1A2BC#32 = ((bound : ℝ) : EReal) := by
  simp [Ideal.ofBits, Ideal.ieee, bound, -EReal.coe_mul]; norm_num

theorem bits_far : Ideal.ofBits .f32 0x5D5E0B6B#32 = ((far : ℝ) : EReal) := by
  simp [Ideal.ofBits, Ideal.ieee, far, -EReal.coe_mul]; norm_num

/-- A real coordinate within the bound. -/
def Small (x : EReal) : Prop := ∃ r : ℝ, x = ((r : ℝ) : EReal) ∧ |r| ≤ bound

/-- The middle of two real words. -/
theorem mid_coe (x y : ℝ) : mid x y = (((x + y) / 2 : ℝ) : EReal) := by
  unfold mid
  rw [Ideal.div_coe (by norm_num : (2 : ℝ) ≠ 0), ← EReal.coe_add, ← EReal.coe_mul]
  congr 1
  ring

/-- The distance of two real words. -/
theorem dist_coe (x y : ℝ) : dist (x : EReal) (y : EReal) = ((|x - y| : ℝ) : EReal) := by
  unfold dist
  rw [← EReal.coe_sub, ← EReal.coe_neg]
  exact (EReal.coe_strictMono.monotone.map_max).symm

/-- The L1 distance of two real boxes. -/
theorem l1_coe (b t : Fin 4 → ℝ) : l1 (fun a => (b a : EReal)) (fun a => (t a : EReal))
    = ((|(b 0 + b 2) / 2 - (t 0 + t 2) / 2| + |(b 1 + b 3) / 2 - (t 1 + t 3) / 2| + |b 2 - b 0 - (t 2 - t 0)|
        + |b 3 - b 1 - (t 3 - t 1)| : ℝ) : EReal) := by
  unfold l1
  simp only [mid_coe, ← EReal.coe_sub, dist_coe, ← EReal.coe_add]

/-- A small box's cost. -/
theorem l1_small {b t : Fin 4 → EReal} (hb : ∀ a, Small (b a)) (ht : ∀ a, Small (t a)) :
    ∃ r : ℝ, l1 b t = ((r : ℝ) : EReal) ∧ r ≤ 12 * bound := by
  choose b' hb' hbb using hb
  choose t' ht' htb using ht
  rw [funext hb', funext ht', l1_coe]
  refine ⟨_, rfl, ?_⟩
  have hb0 := abs_le.mp (hbb 0)
  have hb1 := abs_le.mp (hbb 1)
  have hb2 := abs_le.mp (hbb 2)
  have hb3 := abs_le.mp (hbb 3)
  have ht0 := abs_le.mp (htb 0)
  have ht1 := abs_le.mp (htb 1)
  have ht2 := abs_le.mp (htb 2)
  have ht3 := abs_le.mp (htb 3)
  have h1 : |(b' 0 + b' 2) / 2 - (t' 0 + t' 2) / 2| ≤ 2 * bound := abs_le.mpr ⟨by linarith, by linarith⟩
  have h2 : |(b' 1 + b' 3) / 2 - (t' 1 + t' 3) / 2| ≤ 2 * bound := abs_le.mpr ⟨by linarith, by linarith⟩
  have h3 : |b' 2 - b' 0 - (t' 2 - t' 0)| ≤ 4 * bound := abs_le.mpr ⟨by linarith, by linarith⟩
  have h4 : |b' 3 - b' 1 - (t' 3 - t' 1)| ≤ 4 * bound := abs_le.mpr ⟨by linarith, by linarith⟩
  linarith

/-- A box of the padding's cost. -/
theorem l1_far {b t : Fin 4 → EReal} (hb : ∀ a, b a = ((far : ℝ) : EReal)) (ht : ∀ a, Small (t a)) :
    ∃ r : ℝ, l1 b t = ((r : ℝ) : EReal) ∧ 12 * bound < r := by
  choose t' ht' htb using ht
  rw [funext hb, funext ht', l1_coe (fun _ => far) t']
  refine ⟨_, rfl, ?_⟩
  have ht0 := abs_le.mp (htb 0)
  have ht1 := abs_le.mp (htb 1)
  have ht2 := abs_le.mp (htb 2)
  have ht3 := abs_le.mp (htb 3)
  have h1 := le_abs_self ((far + far) / 2 - (t' 0 + t' 2) / 2)
  have h2 := le_abs_self ((far + far) / 2 - (t' 1 + t' 3) / 2)
  have h3 := abs_nonneg (far - far - (t' 2 - t' 0))
  have h4 := abs_nonneg (far - far - (t' 3 - t' 1))
  have hfb : 14 * bound < 2 * far := by unfold bound far; norm_num
  linarith

/-- Picks among `N` places of which those from `n` on cost more than all before are picks among the first `n`. -/
theorem Picks.restrict {C D : ℕ → EReal} {n N r : ℕ} {σ : ℕ → ℕ} (hn : n ≤ N) (hr : r ≤ n)
    (hC : ∀ s s', s < n → n ≤ s' → s' < N → C s < C s') (hD : ∀ s, s < n → C s = D s) (h : Picks C N σ r) : Picks D n σ r := by
  intro j hj
  refine ((h j hj).restrict hn ?_ hC).congr hD
  have := Finset.card_image_le (s := Finset.range j) (f := σ)
  rw [Finset.card_range] at this
  omega

end Cert.KernelIdeal.Top4

end
-- ==== Proof.Near.lean ====
/-
  THE KERNEL'S CHOICE, BY ITS ARGUMENTS. With every coordinate small, a padding box costs more than any box of the array, so
  the four boxes a grid step writes down are the four of smallest cost among the 20000 of its batch.
-/
module

public import proofs.«01_k».proof.Proof.Array
public import proofs.«01_k».proof.Proof.Costs

@[expose] public section

set_option maxRecDepth 16384

noncomputable section

namespace Cert.KernelIdeal.Top4

open Idealize.ShloMosaic Idealize.ShloMosaic.TcCoe Idealize.ShloMosaic.Tactic Idealize.SL.Sem Cert.KernelIdeal.Gen

/-- The cost of box `q` of batch `b` against that batch's target `r`. -/
def costOf (A : FVec Ideal S8x20000x4 .f32) (T : FVec Ideal S8x64x4 .f32) (b : Fin 8) (r : Fin 64) (q : ℕ) : EReal :=
  l1 (fun a => A (ix3 b ⟨q % 20000, Nat.mod_lt _ (by norm_num)⟩ a)) (fun a => T (ix3 b r a))

section
variable {A : FVec Ideal S8x20000x4 .f32} {T : FVec Ideal S8x64x4 .f32} {b : Fin 8}
  {x : FVec Ideal S1x157x4x128 .f32} {y : FVec Ideal S1x64x4 .f32}
  (hx : ∀ t a l, x (ix4 0 t a l) = tiled A (ix4 b t a l)) (hy : ∀ r a, y (ix3 0 r a) = T (ix3 b r a))
  (hA : ∀ q a, Small (A (ix3 b q a))) (hT : ∀ r a, Small (T (ix3 b r a)))

include hx in
/-- A box of the block that is a box of the array. -/
theorem boxAt_real (q : ℕ) (h : q / 128 % 157 * 128 + q % 128 < 20000) (a : Fin 4) :
    boxAt x q a = A (ix3 b ⟨q / 128 % 157 * 128 + q % 128, h⟩ a) := by
  unfold boxAt
  rw [hx, tiled_apply, dif_pos h]

include hx in
/-- A box of the block that is padding. -/
theorem boxAt_pad (q : ℕ) (h : ¬ q / 128 % 157 * 128 + q % 128 < 20000) (a : Fin 4) : boxAt x q a = ((far : ℝ) : EReal) := by
  unfold boxAt
  rw [hx, tiled_apply, dif_neg h, bits_far]

include hy in
theorem tgtAt_eq (r : Fin 64) : tgtAt y r = fun a => T (ix3 b r a) := funext fun a => hy r a

include hx hy hA hT in
/-- No box's cost is infinite. -/
theorem cost_ne_top (r : Fin 64) (q : ℕ) : l1 (boxAt x q) (tgtAt y r) ≠ ⊤ := by
  rw [tgtAt_eq hy]
  by_cases h : q / 128 % 157 * 128 + q % 128 < 20000
  · obtain ⟨v, hv, -⟩ := l1_small (b := boxAt x q) (fun a => by rw [boxAt_real hx q h]; exact hA _ a) (hT r)
    rw [hv]
    exact EReal.coe_ne_top v
  · obtain ⟨v, hv, -⟩ := l1_far (boxAt_pad hx q h) (hT r)
    rw [hv]
    exact EReal.coe_ne_top v

include hx hy hA hT in
/-- Picks among the block's boxes are picks among the array's. -/
theorem picks_real (r : Fin 64) {σ : ℕ → ℕ} (h : Picks (fun q => l1 (boxAt x q) (tgtAt y r)) (157 * 128) σ 4) :
    Picks (costOf A T b r) 20000 σ 4 := by
  have hr : ∀ s, s < 20000 → boxAt x s = fun a => A (ix3 b ⟨s % 20000, Nat.mod_lt _ (by norm_num)⟩ a) := by
    intro s hs
    have e : s / 128 % 157 * 128 + s % 128 = s := by omega
    funext a
    rw [boxAt_real hx s (by omega)]
    simp only [e, Nat.mod_eq_of_lt hs]
  refine h.restrict (by norm_num) (by norm_num) ?_ ?_
  · intro s s' hs hs' hs''
    have e : s' / 128 % 157 * 128 + s' % 128 = s' := by omega
    obtain ⟨v, hv, hv'⟩ := l1_small (b := boxAt x s) (fun a => by rw [hr s hs]; exact hA _ a) (hT r)
    obtain ⟨w, hw, hw'⟩ := l1_far (boxAt_pad hx s' (by omega)) (hT r)
    show l1 (boxAt x s) (tgtAt y r) < l1 (boxAt x s') (tgtAt y r)
    rw [tgtAt_eq hy, hv, hw]
    exact EReal.coe_lt_coe_iff.mpr (lt_of_le_of_lt hv' hw')
  · intro s hs
    show l1 (boxAt x s) (tgtAt y r) = _
    rw [tgtAt_eq hy, hr s hs, costOf]

end

section
variable (m : (ℓ : Loc nD τ sig) → Buf (Elt Ideal) ℓ) (c : Dev nD) (b : Fin 8)
  (hT : ∀ r a, Small (m ((c : Thread nD τ).loc main_arg2) (ix3 b r a)))

include hT in
/-- Columns 0 to 3 of the output array hold the numbers of the four boxes of smallest cost in the first array. -/
theorem outArr_first (hA : ∀ q a, Small (m ((c : Thread nD τ).loc main_arg0) (ix3 b q a))) (r : Fin 64) :
    ∃ σ, Picks (costOf (m ((c : Thread nD τ).loc main_arg0)) (m ((c : Thread nD τ).loc main_arg2)) b r) 20000 σ 4
      ∧ ∀ j : Fin 4, outArr m c (ix3 b r ⟨j.val, by omega⟩) = BitVec.ofNat 32 (σ j.val) := by
  obtain ⟨σ, hσ, h⟩ := out_first c (grid0.coords (pt b)) (ms0_0 (pt b)) (hs0_0 (pt b)) (ms0_1 (pt b)) (hs0_1 (pt b))
    (ms0_2 (pt b)) (hs0_2 (pt b)) (ms0_3 (pt b)) (hs0_3 (pt b)) (iblk m c 0 (pt b)) (iblk m c 1 (pt b)) (iblk m c 2 (pt b))
    (cost_ne_top (iblk0 m c b) (iblk2 m c b) hA hT) r
  exact ⟨σ, picks_real (iblk0 m c b) (iblk2 m c b) hA hT r hσ, h⟩

include hT in
/-- Columns 4 to 7 hold those of the second array. -/
theorem outArr_second (hA : ∀ q a, Small (m ((c : Thread nD τ).loc main_arg1) (ix3 b q a))) (r : Fin 64) :
    ∃ σ, Picks (costOf (m ((c : Thread nD τ).loc main_arg1)) (m ((c : Thread nD τ).loc main_arg2)) b r) 20000 σ 4
      ∧ ∀ j : Fin 4, outArr m c (ix3 b r ⟨4 + j.val, by omega⟩) = BitVec.ofNat 32 (σ j.val) := by
  obtain ⟨σ, hσ, h⟩ := out_second c (grid0.coords (pt b)) (ms0_0 (pt b)) (hs0_0 (pt b)) (ms0_1 (pt b)) (hs0_1 (pt b))
    (ms0_2 (pt b)) (hs0_2 (pt b)) (ms0_3 (pt b)) (hs0_3 (pt b)) (iblk m c 0 (pt b)) (iblk m c 1 (pt b)) (iblk m c 2 (pt b))
    (cost_ne_top (iblk1 m c b) (iblk2 m c b) hA hT) r
  exact ⟨σ, picks_real (iblk1 m c b) (iblk2 m c b) hA hT r hσ, h⟩

end

end Cert.KernelIdeal.Top4

end
-- ==== Proof.Ref.lean ====
/-
  THE REFERENCE'S CHOICE. Its cost of a box is the sum of the four distances, and a stable sort by the negated cost, greatest
  first, puts the four boxes of smallest cost first, ties to the smaller number.
-/
module

public import proofs.«01_k».proof.Proof.Gen.ReferenceIdeal.Read
public import proofs.«01_k».proof.Proof.Near

@[expose] public section

set_option maxRecDepth 16384

noncomputable section

namespace Cert.ReferenceIdeal.Top4

open Idealize.ShloMosaic Idealize.ShloMosaic.Tactic Idealize.SL.Sem Cert.ReferenceIdeal Cert.ReferenceIdeal.Gen Cert.ReferenceIdeal.Read
open Cert.KernelIdeal.Top4 (mid dist l1 costOf Picks sorted_picks bits_two)

variable (A B : FVec Ideal S8x20000x4 .f32) (T : FVec Ideal S8x64x4 .f32)

/-- A box as middle, width and height. -/
theorem box_row (b : Fin 8) (q : Fin 20000) :
    val_main_v12 (F := Ideal) A (ix3 b q 0) = mid (A (ix3 b q 0)) (A (ix3 b q 2))
    ∧ val_main_v12 (F := Ideal) A (ix3 b q 1) = mid (A (ix3 b q 1)) (A (ix3 b q 3))
    ∧ val_main_v12 (F := Ideal) A (ix3 b q 2) = A (ix3 b q 2) - A (ix3 b q 0)
    ∧ val_main_v12 (F := Ideal) A (ix3 b q 3) = A (ix3 b q 3) - A (ix3 b q 1) := by
  refine ⟨?_, ?_, ?_, ?_⟩
  · pointwise [val_main_v12, val_main_v6, val_main_v5, val_main_v4, val_main_v0, val_main_v2, val_main_cst]
    rw [bits_two]; rfl
  · pointwise [val_main_v12, val_main_v9, val_main_v8, val_main_v7, val_main_v1, val_main_v3, val_main_cst_0]
    rw [bits_two]; rfl
  · pointwise [val_main_v12, val_main_v10, val_main_v0, val_main_v2]
    try rfl
  · pointwise [val_main_v12, val_main_v11, val_main_v1, val_main_v3]
    try rfl

/-- A target as middle, width and height. -/
theorem target_row (b : Fin 8) (r : Fin 64) :
    val_main_v38 (F := Ideal) T (ix3 b r 0) = mid (T (ix3 b r 0)) (T (ix3 b r 2))
    ∧ val_main_v38 (F := Ideal) T (ix3 b r 1) = mid (T (ix3 b r 1)) (T (ix3 b r 3))
    ∧ val_main_v38 (F := Ideal) T (ix3 b r 2) = T (ix3 b r 2) - T (ix3 b r 0)
    ∧ val_main_v38 (F := Ideal) T (ix3 b r 3) = T (ix3 b r 3) - T (ix3 b r 1) := by
  refine ⟨?_, ?_, ?_, ?_⟩
  · pointwise [val_main_v38, val_main_v32, val_main_v31, val_main_v30, val_main_v26, val_main_v28, val_main_cst_3]
    rw [bits_two]; rfl
  · pointwise [val_main_v38, val_main_v35, val_main_v34, val_main_v33, val_main_v27, val_main_v29, val_main_cst_4]
    rw [bits_two]; rfl
  · pointwise [val_main_v38, val_main_v36, val_main_v26, val_main_v28]
    try rfl
  · pointwise [val_main_v38, val_main_v37, val_main_v27, val_main_v29]
    try rfl

/-- One of the four distances. -/
theorem gap_apply (b : Fin 8) (q : Fin 20000) (r : Fin 64) (k : Fin 4) :
    val_main_v44 (F := Ideal) A T (ix4 b q r k) = dist (val_main_v12 (F := Ideal) A (ix3 b q k)) (val_main_v38 (F := Ideal) T (ix3 b r k)) := by
  rw [val_main_v44_apply, val_main_v43_apply, val_main_v41_apply, val_main_v39_apply, val_main_v42_apply, val_main_v40_apply]
  have e1 : idx_main_v39 (idx_main_v41 (ix4 b q r k)) = ix3 b q k := by
    funext a; fin_cases a <;> rfl
  have e2 : idx_main_v40 (idx_main_v42 (ix4 b q r k)) = ix3 b r k := by
    funext a; fin_cases a <;> rfl
  rw [e1, e2]
  rfl

/-- The reference's cost is the L1 distance. -/
theorem cost_apply (b : Fin 8) (q : Fin 20000) (r : Fin 64) : val_main_v45 (F := Ideal) A T (ix3 b q r) = costOf A T b r q.val := by
  have e : ∀ k, idx_main_v45 (ix3 b q r) k = ix4 b q r k := fun k => by
    funext a; fin_cases a <;> rfl
  obtain ⟨h0, h1, h2, h3⟩ := box_row A b q
  obtain ⟨t0, t1, t2, t3⟩ := target_row T b r
  have hz : val_main_cst_5 (F := Ideal) (Shape.Idx.first h_S_) = 0 := by
    show Ideal.ofBits .f32 0x00000000#32 = 0
    simp [Ideal.ofBits, Ideal.ieee]
  rw [val_main_v45_apply, Fin.sum_univ_four, hz, zero_add]
  simp only [e, gap_apply, h0, h1, h2, h3, t0, t1, t2, t3]
  unfold costOf
  simp only [Nat.mod_eq_of_lt q.isLt]
  rfl

/-- One box is before another in the sort when its cost is smaller. -/
theorem before_eq (b : Fin 8) (r : Fin 64) (k k' : Fin 20000) :
    (FloatOps.cmpfTotal (F := Ideal) (φ := .f32) .gt (val_main_v55 (F := Ideal) A T (ix3 b r k)) (val_main_v55 (F := Ideal) A T (ix3 b r k')) == 1#1)
      = decide (costOf A T b r k.val < costOf A T b r k'.val) := by
  have e : ∀ k, val_main_v55 (F := Ideal) A T (ix3 b r k) = -(costOf A T b r k.val) := fun k => by
    rw [val_main_v55_apply, val_main_v53_apply]
    have e1 : idx_main_v53 (ix3 b r k) = ix3 b k r := by
      funext a; fin_cases a <;> rfl
    rw [e1, cost_apply]
    rfl
  rw [e, e]
  show (BitVec.ofBool (decide (-(costOf A T b r k'.val) < -(costOf A T b r k.val))) == 1#1) = _
  by_cases h : costOf A T b r k.val < costOf A T b r k'.val
  · rw [decide_eq_true h, decide_eq_true (EReal.neg_lt_neg_iff.mpr h)]; rfl
  · rw [decide_eq_false h, decide_eq_false (fun h' => h (EReal.neg_lt_neg_iff.mp h'))]; rfl

/-- The numbers of a row's greatest entries are those of a stable sort, greatest first. -/
theorem topK_row {α : Type} {n : Nat} (gt : α → α → BitVec 1) (x : (⟨3, ![8, 64, n]⟩ : Shape).Idx → α)
    (h : (⟨3, ![8, 64, n]⟩ : Shape).Slices (fun _ => 0) S8x64x4) (b : Fin 8) (r : Fin 64) (j : Fin 4) (hj : j.val < n) :
    (Host.topK S8x64x4 2 gt x h).2 (ix3 b r j)
      = BitVec.ofNat 32 (sortedFrom (fun k k' : Fin n => gt (x (ix3 b r k)) (x (ix3 b r k')) == 1#1) ⟨j.val, hj⟩).val := by
  have hd : 2 < (⟨3, ![8, 64, n]⟩ : Shape).rank := Nat.lt_succ_self 2
  have hz : ∀ a : Fin 3, ((ix3 b r (⟨j.val, hj⟩ : Fin n)) a).val = 0 + ((ix3 b r j : S8x64x4.Idx) a).val := by
    intro a
    fin_cases a <;> exact (Nat.zero_add _).symm
  have e : ∀ k : Fin n, (ix3 b r (⟨j.val, hj⟩ : Fin n)).along ⟨2, hd⟩ k = ix3 b r k := by
    intro k
    funext a
    fin_cases a <;> rfl
  unfold Host.topK
  dsimp only
  rw [extractStridedSlice_apply _ _ h (ix3 b r j) (ix3 b r ⟨j.val, hj⟩) hz]
  unfold Host.sort2
  rw [dif_pos hd]
  dsimp only
  rw [dif_pos hd]
  have e' : (fun k k' : Fin n => gt (x (ix3 b r k)) (x (ix3 b r k')) == 1#1)
      = fun k k' : Fin n => gt (x ((ix3 b r (⟨j.val, hj⟩ : Fin n)).along ⟨2, hd⟩ k)) (x ((ix3 b r (⟨j.val, hj⟩ : Fin n)).along ⟨2, hd⟩ k')) == 1#1 := by
    funext k k'
    rw [e, e]
  rw [e']
  rfl

/-- The reference's four numbers are the picks. -/
theorem indices_picks (b : Fin 8) (r : Fin 64) :
    ∃ σ, Picks (costOf A T b r) 20000 σ 4 ∧ ∀ j : Fin 4, val_main_indices (F := Ideal) A T (ix3 b r j) = BitVec.ofNat 32 (σ j.val) := by
  refine ⟨_, sorted_picks 20000 (costOf A T b r) _ (before_eq A T b r) 4 (by norm_num), fun j => ?_⟩
  have hj : j.val < 20000 := by omega
  simp only [hj, dif_pos]
  exact topK_row _ _ _ b r j hj

/-- The second array's cost is built by the same operations. -/
theorem indices_same : val_main_indices_8 (F := Ideal) B T = val_main_indices (F := Ideal) B T := by
  sl_kernel_rfl

/-- The first four of a row's eight numbers are the first array's. -/
theorem joined_low (b : Fin 8) (r : Fin 64) (j : Fin 4) :
    val_main_v57 (F := Ideal) A B T (ix3 b r ⟨j.val, by omega⟩) = val_main_indices (F := Ideal) A T (ix3 b r j) := by
  unfold val_main_v57
  generalize val_main_indices (F := Ideal) A T = u
  generalize val_main_indices_8 (F := Ideal) B T = v
  have hj := j.isLt
  pointwise []

/-- The last four are the second array's. -/
theorem joined_high (b : Fin 8) (r : Fin 64) (j : Fin 4) :
    val_main_v57 (F := Ideal) A B T (ix3 b r ⟨4 + j.val, by omega⟩) = val_main_indices (F := Ideal) B T (ix3 b r j) := by
  unfold val_main_v57
  rw [indices_same]
  generalize val_main_indices (F := Ideal) A T = u
  generalize val_main_indices (F := Ideal) B T = v
  have hj := j.isLt
  pointwise []

end Cert.ReferenceIdeal.Top4

end
-- ==== Proof.Run.lean ====
/-
  THE KERNEL'S RUN. The region's output array reshaped to the first result, the place numbers of the eight columns repeated over
  the batch as the second, and the arguments as they were.
-/
module

public import proofs.«01_k».proof.Proof.Array

@[expose] public section

set_option maxRecDepth 16384

noncomputable section

namespace Cert.KernelIdeal.Top4

open Idealize.ShloMosaic Idealize.ShloMosaic.TcCoe Idealize.ShloMosaic.Tactic Idealize.SL.Sem Cert.KernelIdeal.Gen
open Idealize.ShloMosaic.Pipeline (Dat)

/-- The second result: the numbers 0 to 3 twice, in every row. -/
def places : S8x512.Idx → BitVec 32 :=
  shapeCast S8x512 (broadcastInDim S8x1x64x8 ![0, 1, 2, 3] bcast_S1x1x1x8_S8x1x64x8_0_1_2_3
    (shapeCast S1x1x1x8 (broadcastInDim S1x8 ![1] bcast_S8_S1x8_1
      (concatenate S8 0 [⟨S4, iotaInDim S4 32 0⟩, ⟨S4, iotaInDim S4 32 0⟩] concatenates_S4_S4_S8_d0)) shapeCasts_S1x8_S1x1x1x8))
    shapeCasts_S8x1x64x8_S8x512

variable (m : (ℓ : Loc nD τ sig) → Buf (Elt Ideal) ℓ) (ρ : Dev nD → PrngReg) (c : Dev nD)

/-- The first result, from the region's output array. -/
theorem tail_v7 : Pipeline.afterTail₀ cfgs (dats m) 0 (V0 m) [hostOps1] c main_v7 = shapeCast S8x512 (outArr m c) shapeCasts_S8x64x8_S8x512 := by
  unfold Pipeline.afterTail₀
  dsimp only [hostOps1, List.flatten_cons, List.flatten_nil, List.append_nil, List.cons_append, List.nil_append]
  after_results
  funext i
  show shapeCast S8x512 (Pipeline.withArrays (cfgs 0).spec c (V0 m c) (fun w => (dats m 0 c).arrAt w (cfgs 0).N)
    (Proc.tc.devRef (Pipeline.arrRef spec0 3))) shapeCasts_S8x64x8_S8x512 i = _
  rw [Pipeline.withArrays_arr spec0 launch0.win.arr_inj c (V0 m c) _ 3, final_o]

/-- The second result. -/
theorem tail_v14 : Pipeline.afterTail₀ cfgs (dats m) 0 (V0 m) [hostOps1] c main_v14 = places := by
  unfold Pipeline.afterTail₀
  dsimp only [hostOps1, List.flatten_cons, List.flatten_nil, List.append_nil, List.cons_append, List.nil_append]
  after_results
  rfl

/-- The run, with its results and its arguments. -/
theorem run : θ_run defs (onTc (τ := τ) (main (F := Ideal))) ⟨m, fun _ => 0, ρ⟩ fun r => ∀ c : Dev nD,
    r.2.mem ((c : Thread nD τ).loc main_v7) = shapeCast S8x512 (outArr m c) shapeCasts_S8x64x8_S8x512
    ∧ r.2.mem ((c : Thread nD τ).loc main_v14) = places
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) := by
  refine (θ_run defs _ _).mono (fun r h c => ?_) (θ_run_and (run_main m ρ) (unchanged m ρ))
  exact ⟨((h.1 c).2 main_v7 (Pipeline.mem_restRefs_of main_v7 (by decide) (by decide))).trans (tail_v7 m c),
    ((h.1 c).2 main_v14 (Pipeline.mem_restRefs_of main_v14 (by decide) (by decide))).trans (tail_v14 m c), h.2 c⟩

end Cert.KernelIdeal.Top4

end
-- ==== Proof.Given.lean ====
/-
  THE PRECONDITION, ENTRY BY ENTRY. Where the printed predicate is all ones, every entry of the three arrays is a real number of
  magnitude at most `bound`.
-/
module

public import proofs.«01_k».proof.Defs
public import proofs.«01_k».proof.Proof.Gen.Pre_small
public import proofs.«01_k».proof.Proof.Costs
public import Idealize.ShloMosaic.Lib.ReduceAll
public import Idealize.ShloMosaic.Lib.Affine

@[expose] public section

set_option maxRecDepth 16384

noncomputable section

namespace Cert.KernelIdeal.Top4

open Idealize.ShloMosaic Idealize.ShloMosaic.Tactic Idealize.SL.Sem

/-- A magnitude at most `bound`, as the predicate compares it. -/
theorem small_of_le {x : EReal} (h : max x (-x) ≤ ((bound : ℝ) : EReal)) : Small x := by
  obtain ⟨h1, h2⟩ := max_le_iff.mp h
  induction x with
  | bot => exact absurd h2 (by simp)
  | top => exact absurd h1 (by simp)
  | coe r =>
    refine ⟨r, rfl, abs_le.mpr ⟨?_, EReal.coe_le_coe_iff.mp h1⟩⟩
    have := EReal.coe_le_coe_iff.mp (show ((-r : ℝ) : EReal) ≤ _ from h2)
    linarith

/-- The predicate's comparison at an entry. -/
theorem small_of_cmpf {s : Shape} (A : FVec Ideal s .f32) (y : FVec Ideal s .f32) (i : s.Idx) (hy : y i = Ideal.ofBits .f32 0x5BB1A2BC#32)
    (h : cmpf (F := Ideal) .ole (Host.absf A) y i = 1#1) : Small (A i) := by
  have h' : BitVec.ofBool (decide (max (A i) (-(A i)) ≤ y i)) = 1#1 := h
  rw [hy, bits_bound] at h'
  refine small_of_le ?_
  by_contra hn
  rw [decide_eq_false hn] at h'
  exact absurd h' (by decide)

/-- The only index of a scalar. -/
instance : Subsingleton (Cert.Pre_small.S_).Idx := ⟨fun a b => funext fun k => k.elim0⟩

open Cert.Pre_small.Gen in
/-- The whole predicate. -/
theorem smalls (A B : FVec Ideal Cert.Pre_small.S8x20000x4 .f32) (T : FVec Ideal Cert.Pre_small.S8x64x4 .f32)
    (h : (@Cert.Pre_small.fn Cert.Pre_small.Gen.facts Ideal _) A B T = fun _ => 1#1) :
    (∀ i, Small (A i)) ∧ (∀ i, Small (B i)) ∧ ∀ i, Small (T i) := by
  have h0 := congrFun h (fun k : Fin 0 => k.elim0)
  dsimp only [Cert.Pre_small.fn] at h0
  obtain ⟨h1, hT⟩ := IntOp.andi_eq_one.mp h0
  obtain ⟨hA, hB⟩ := IntOp.andi_eq_one.mp h1
  refine ⟨fun i => small_of_cmpf A _ i rfl (Host.reduce_andi_all _ _ _ _ _ hA i),
    fun i => small_of_cmpf B _ i rfl (Host.reduce_andi_all _ _ _ _ _ hB i),
    fun i => small_of_cmpf T _ i rfl (Host.reduce_andi_all _ _ _ _ _ hT i)⟩

end Cert.KernelIdeal.Top4

end
-- ==== Proof.Meet.lean ====
/-
  THE TWO PROGRAMS MEET. Both write down the picks among the same costs, and picks are unique: under the precondition the region's
  output array is the reference's joined array of numbers.
-/
module

public import proofs.«01_k».proof.Proof.Ref
public import proofs.«01_k».proof.Proof.Run
public import proofs.«01_k».proof.Proof.Given

@[expose] public section

set_option maxRecDepth 16384

noncomputable section

namespace Cert.KernelIdeal.Top4

open Idealize.ShloMosaic Idealize.ShloMosaic.TcCoe Idealize.ShloMosaic.Tactic Idealize.SL.Sem Cert.KernelIdeal.Gen
open Cert.ReferenceIdeal.Read (val_main_v57 val_main_v58 val_main_v65)
open Cert.ReferenceIdeal.Top4 (indices_picks joined_low joined_high)

variable (m : (ℓ : Loc nD τ sig) → Buf (Elt Ideal) ℓ) (c : Dev nD)

/-- The region's output array is the reference's joined array. -/
theorem outArr_eq (hA : ∀ i, Small (m ((c : Thread nD τ).loc main_arg0) i)) (hB : ∀ i, Small (m ((c : Thread nD τ).loc main_arg1) i))
    (hT : ∀ i, Small (m ((c : Thread nD τ).loc main_arg2) i)) :
    outArr m c = val_main_v57 (F := Ideal) (m ((c : Thread nD τ).loc main_arg0)) (m ((c : Thread nD τ).loc main_arg1))
      (m ((c : Thread nD τ).loc main_arg2)) := by
  have key : ∀ (b : Fin 8) (r : Fin 64) (k : Fin 8), outArr m c (ix3 b r k)
      = val_main_v57 (F := Ideal) (m ((c : Thread nD τ).loc main_arg0)) (m ((c : Thread nD τ).loc main_arg1))
        (m ((c : Thread nD τ).loc main_arg2)) (ix3 b r k) := by
    intro b r k
    rcases Nat.lt_or_ge k.val 4 with hk | hk
    · obtain ⟨σ, hσ, h⟩ := outArr_first m c b (fun _ _ => hT _) (fun _ _ => hA _) r
      obtain ⟨σ', hσ', h'⟩ := indices_picks (m ((c : Thread nD τ).loc main_arg0)) (m ((c : Thread nD τ).loc main_arg2)) b r
      have e := joined_low (m ((c : Thread nD τ).loc main_arg0)) (m ((c : Thread nD τ).loc main_arg1)) (m ((c : Thread nD τ).loc main_arg2)) b r ⟨k.val, hk⟩
      rw [h', ← hσ.unique hσ' k.val hk] at e
      exact (h ⟨k.val, hk⟩).trans e.symm
    · obtain ⟨σ, hσ, h⟩ := outArr_second m c b (fun _ _ => hT _) (fun _ _ => hB _) r
      obtain ⟨σ', hσ', h'⟩ := indices_picks (m ((c : Thread nD τ).loc main_arg1)) (m ((c : Thread nD τ).loc main_arg2)) b r
      have hj : k.val - 4 < 4 := by omega
      have e := joined_high (m ((c : Thread nD τ).loc main_arg0)) (m ((c : Thread nD τ).loc main_arg1)) (m ((c : Thread nD τ).loc main_arg2)) b r ⟨k.val - 4, hj⟩
      rw [h', ← hσ.unique hσ' (k.val - 4) hj] at e
      have hk' : (⟨4 + (k.val - 4), by omega⟩ : Fin 8) = k := Fin.ext (by show 4 + (k.val - 4) = k.val; omega)
      have h1 := (h ⟨k.val - 4, hj⟩).trans e.symm
      simp only [hk'] at h1
      exact h1
  funext i
  have hi : (ix3 (i 0) (i 1) (i 2) : S8x64x8.Idx) = i := by
    funext a
    fin_cases a <;> rfl
  have := key (i 0) (i 1) (i 2)
  rw [hi] at this
  exact this

end Cert.KernelIdeal.Top4

namespace Cert.Proof

open Idealize.ShloMosaic Idealize.ShloMosaic.TcCoe Idealize.SL.Sem Cert.KernelIdeal.Top4

/-- On the extended reals, where every coordinate is small, the kernel and the reference end with the same two results. -/
theorem algebraic : Cert.algebraic_KernelIdeal_ReferenceIdeal_pre_small (hKernelIdeal := Cert.KernelIdeal.Gen.facts)
    (hReferenceIdeal := Cert.ReferenceIdeal.Gen.facts) (hPre_small := Cert.Pre_small.Gen.facts) := by
  intro m g m' g' hpre hagree
  refine ⟨fun c => _, fun _ => _, Cert.KernelIdeal.Top4.run m g, ?_⟩
  refine (θ_run Cert.ReferenceIdeal.defs _ _).mono (fun r h c => ?_) (Cert.ReferenceIdeal.Value.run m' g')
  obtain ⟨h58, h65, hargs⟩ := h c
  obtain ⟨e0, e1, e2⟩ := hagree c
  obtain ⟨hA, hB, hT⟩ := smalls _ _ _ (hpre c)
  refine ⟨h58.trans ?_, h65.trans ?_, hargs⟩
  · rw [Cert.ReferenceIdeal.Read.val_main_v58_eq, e0, e1, e2]
    exact congrArg (fun X => shapeCast Cert.KernelIdeal.S8x512 X Cert.KernelIdeal.Gen.shapeCasts_S8x64x8_S8x512) (outArr_eq m c hA hB hT).symm
  · rfl

end Cert.Proof

end
-- ==== Proof.lean ====
/-
  THE PROOF OF THE CLAIM. Each program runs to its end, leaves its arguments as they were and every semaphore counter at zero; the
  idealized kernel is the kernel's own text; and on the extended reals, where every coordinate is small, the kernel and the reference
  end with the same two results (Proof/Meet.lean).
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_small
public import proofs.«01_k».proof.Proof.Gen.ReferenceIdeal.Run
public import proofs.«01_k».proof.Proof.Gen.ReferenceIdeal.Read
public import proofs.«01_k».proof.Proof.Meet
public import Idealize.ShloMosaic.Adequacy
public import Idealize.ShloMosaic.Init
public import Idealize.ShloMosaic.Lib.Quiescent

@[expose] public section

noncomputable section

namespace Cert.Proof

open Idealize.ShloMosaic Idealize.SL.Sem

/-- The reference runs to its end and leaves its arguments as they were; it has no semaphore, so none is left raised. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem (c.tc.loc Cert.ReferenceIdeal.main_arg0) = m (c.tc.loc Cert.ReferenceIdeal.main_arg0)
        ∧ r.2.mem (c.tc.loc Cert.ReferenceIdeal.main_arg1) = m (c.tc.loc Cert.ReferenceIdeal.main_arg1)
        ∧ r.2.mem (c.tc.loc Cert.ReferenceIdeal.main_arg2) = m (c.tc.loc Cert.ReferenceIdeal.main_arg2))
        ∧ r.2.sem = fun _ => 0) :=
  (θ_run _ _ _).mono (fun r h => ⟨fun c => (h c).2.2, sem_eq_zero_of_no_sems (by decide) r.2⟩) (Cert.ReferenceIdeal.Value.run m ρ)

/-- Everything claimed. -/
theorem claim : Cert.Claim :=
  ⟨Cert.Kernel.Gen.facts, Cert.KernelIdeal.Gen.facts, Cert.ReferenceIdeal.Gen.facts, Cert.Pre_small.Gen.facts,
    fun m ρ _ => Cert.Kernel.Gen.frame m ρ, fun m ρ _ => Cert.KernelIdeal.Gen.frame m ρ, fun m ρ _ => Cert.KernelIdeal.Gen.frame m ρ,
    fun m ρ _ => reference_frame m ρ, fun m ρ _ => reference_frame m ρ, trivial, algebraic⟩

end Cert.Proof

end
